-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 2048]⟩ ⟨3, ![4, 1024, 2048]⟩ (Layout.meshBlock [2, 4, 4] ![[2], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 512]⟩ ⟨2, ![1024, 2048]⟩ (Layout.meshBlock [2, 4, 4] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x2048 : Shape := ⟨3, ![1, 1024, 2048]⟩
abbrev S1024x512 : Shape := ⟨2, ![1024, 512]⟩
abbrev S128x2048 : Shape := ⟨2, ![128, 2048]⟩
abbrev S2x3x64x512 : Shape := ⟨4, ![2, 3, 64, 512]⟩
abbrev S2x4x64x512 : Shape := ⟨4, ![2, 4, 64, 512]⟩
abbrev S_ : Shape := ⟨0, ![]⟩
abbrev S2x3 : Shape := ⟨2, ![2, 3]⟩
abbrev S2x4 : Shape := ⟨2, ![2, 4]⟩
abbrev S1x128x2048 : Shape := ⟨3, ![1, 128, 2048]⟩
abbrev S64x512 : Shape := ⟨2, ![64, 512]⟩
abbrev S1x1x64x512 : Shape := ⟨4, ![1, 1, 64, 512]⟩
abbrev S1x1 : Shape := ⟨2, ![1, 1]⟩

abbrev nBuf : Space → Nat
  | .hbm => 2
  | .vmem => 4
  | .smem => 0
  | _ => 0

abbrev bufTy : (tb : Table) → Fin (tcTables nBuf tb) → BufTy
  | .hbm, ⟨0, _⟩ => ⟨S1x1024x2048, .f32⟩
  | .hbm, ⟨1, _⟩ => ⟨S1024x512, .bf16⟩
  | .local _ .vmem, ⟨0, _⟩ => ⟨S1024x512, .bf16⟩
  | .local _ .vmem, ⟨1, _⟩ => ⟨S128x2048, .f32⟩
  | .local _ .vmem, ⟨2, _⟩ => ⟨S2x3x64x512, .bf16⟩
  | .local _ .vmem, ⟨3, _⟩ => ⟨S2x4x64x512, .bf16⟩
  | _, _ => ⟨S1x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_off1 (d0 : Dev nD) : Fin 3 → Nat :=
  let c0_i32 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.muli v5 c2_i32_2
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.addi v9 v2
  let c128_i32 : BitVec 32 := 128#32
  let v11 : BitVec 32 := Scalar.muli v10 c128_i32
  let c0_i32_3 : BitVec 32 := 0#32
  ![0, v11.toNat, 0]
def k0_dev1 (d0 : Dev nD) : Nat :=
  let c0_i32_13 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_12 : BitVec 32 := 16#32
  let v26 : BitVec 32 := Scalar.muli v2 c16_i32_12
  let v27 : BitVec 32 := Scalar.addi c0_i32_13 v26
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_14 : BitVec 32 := 4#32
  let v28 : BitVec 32 := Scalar.muli v5 c4_i32_14
  let v29 : BitVec 32 := Scalar.addi v27 v28
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v15 : BitVec 32 := Scalar.addi v8 c1_i32_4
  let c4_i32_5 : BitVec 32 := 4#32
  let c0_i32_6 : BitVec 32 := 0#32
  let v16 : BitVec 1 := Scalar.cmpi .eq c4_i32_5 c0_i32_6
  let c1_i32_7 : BitVec 32 := 1#32
  let v17 : BitVec 32 := Scalar.select v16 c1_i32_7 c4_i32_5
  let v18 : BitVec 32 := Scalar.remsi v15 v17
  let c0_i32_9 : BitVec 32 := 0#32
  let v20 : BitVec 1 := Scalar.cmpi .slt v18 c0_i32_9
  let c0_i32_10 : BitVec 32 := 0#32
  let v21 : BitVec 1 := Scalar.cmpi .slt v17 c0_i32_10
  let v22 : BitVec 1 := Scalar.xori v20 v21
  let c0_i32_8 : BitVec 32 := 0#32
  let v19 : BitVec 1 := Scalar.cmpi .ne v18 c0_i32_8
  let v23 : BitVec 1 := Scalar.andi v22 v19
  let v24 : BitVec 32 := Scalar.addi v18 v17
  let v25 : BitVec 32 := Scalar.select v23 v24 v18
  let c1_i32_15 : BitVec 32 := 1#32
  let v30 : BitVec 32 := Scalar.muli v25 c1_i32_15
  let v31 : BitVec 32 := Scalar.addi v29 v30
  v31.toNat
def k0_dev2 (d0 : Dev nD) : Nat :=
  let c0_i32_25 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_24 : BitVec 32 := 16#32
  let v43 : BitVec 32 := Scalar.muli v2 c16_i32_24
  let v44 : BitVec 32 := Scalar.addi c0_i32_25 v43
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_26 : BitVec 32 := 4#32
  let v45 : BitVec 32 := Scalar.muli v5 c4_i32_26
  let v46 : BitVec 32 := Scalar.addi v44 v45
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_16 : BitVec 32 := 2#32
  let v32 : BitVec 32 := Scalar.addi v8 c2_i32_16
  let c4_i32_17 : BitVec 32 := 4#32
  let c0_i32_18 : BitVec 32 := 0#32
  let v33 : BitVec 1 := Scalar.cmpi .eq c4_i32_17 c0_i32_18
  let c1_i32_19 : BitVec 32 := 1#32
  let v34 : BitVec 32 := Scalar.select v33 c1_i32_19 c4_i32_17
  let v35 : BitVec 32 := Scalar.remsi v32 v34
  let c0_i32_21 : BitVec 32 := 0#32
  let v37 : BitVec 1 := Scalar.cmpi .slt v35 c0_i32_21
  let c0_i32_22 : BitVec 32 := 0#32
  let v38 : BitVec 1 := Scalar.cmpi .slt v34 c0_i32_22
  let v39 : BitVec 1 := Scalar.xori v37 v38
  let c0_i32_20 : BitVec 32 := 0#32
  let v36 : BitVec 1 := Scalar.cmpi .ne v35 c0_i32_20
  let v40 : BitVec 1 := Scalar.andi v39 v36
  let v41 : BitVec 32 := Scalar.addi v35 v34
  let v42 : BitVec 32 := Scalar.select v40 v41 v35
  let c1_i32_27 : BitVec 32 := 1#32
  let v47 : BitVec 32 := Scalar.muli v42 c1_i32_27
  let v48 : BitVec 32 := Scalar.addi v46 v47
  v48.toNat
def k0_dev3 (d0 : Dev nD) : Nat :=
  let c0_i32_36 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_35 : BitVec 32 := 16#32
  let v60 : BitVec 32 := Scalar.muli v2 c16_i32_35
  let v61 : BitVec 32 := Scalar.addi c0_i32_36 v60
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_37 : BitVec 32 := 4#32
  let v62 : BitVec 32 := Scalar.muli v5 c4_i32_37
  let v63 : BitVec 32 := Scalar.addi v61 v62
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v49 : BitVec 32 := Scalar.addi v8 c3_i32
  let c4_i32_28 : BitVec 32 := 4#32
  let c0_i32_29 : BitVec 32 := 0#32
  let v50 : BitVec 1 := Scalar.cmpi .eq c4_i32_28 c0_i32_29
  let c1_i32_30 : BitVec 32 := 1#32
  let v51 : BitVec 32 := Scalar.select v50 c1_i32_30 c4_i32_28
  let v52 : BitVec 32 := Scalar.remsi v49 v51
  let c0_i32_32 : BitVec 32 := 0#32
  let v54 : BitVec 1 := Scalar.cmpi .slt v52 c0_i32_32
  let c0_i32_33 : BitVec 32 := 0#32
  let v55 : BitVec 1 := Scalar.cmpi .slt v51 c0_i32_33
  let v56 : BitVec 1 := Scalar.xori v54 v55
  let c0_i32_31 : BitVec 32 := 0#32
  let v53 : BitVec 1 := Scalar.cmpi .ne v52 c0_i32_31
  let v57 : BitVec 1 := Scalar.andi v56 v53
  let v58 : BitVec 32 := Scalar.addi v52 v51
  let v59 : BitVec 32 := Scalar.select v57 v58 v52
  let c1_i32_38 : BitVec 32 := 1#32
  let v64 : BitVec 32 := Scalar.muli v59 c1_i32_38
  let v65 : BitVec 32 := Scalar.addi v63 v64
  v65.toNat
def k0_dev4 (d0 : Dev nD) : Nat :=
  let c0_i32_48 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_47 : BitVec 32 := 16#32
  let v77 : BitVec 32 := Scalar.muli v2 c16_i32_47
  let v78 : BitVec 32 := Scalar.addi c0_i32_48 v77
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_39 : BitVec 32 := 1#32
  let v66 : BitVec 32 := Scalar.addi v5 c1_i32_39
  let c4_i32_40 : BitVec 32 := 4#32
  let c0_i32_41 : BitVec 32 := 0#32
  let v67 : BitVec 1 := Scalar.cmpi .eq c4_i32_40 c0_i32_41
  let c1_i32_42 : BitVec 32 := 1#32
  let v68 : BitVec 32 := Scalar.select v67 c1_i32_42 c4_i32_40
  let v69 : BitVec 32 := Scalar.remsi v66 v68
  let c0_i32_44 : BitVec 32 := 0#32
  let v71 : BitVec 1 := Scalar.cmpi .slt v69 c0_i32_44
  let c0_i32_45 : BitVec 32 := 0#32
  let v72 : BitVec 1 := Scalar.cmpi .slt v68 c0_i32_45
  let v73 : BitVec 1 := Scalar.xori v71 v72
  let c0_i32_43 : BitVec 32 := 0#32
  let v70 : BitVec 1 := Scalar.cmpi .ne v69 c0_i32_43
  let v74 : BitVec 1 := Scalar.andi v73 v70
  let v75 : BitVec 32 := Scalar.addi v69 v68
  let v76 : BitVec 32 := Scalar.select v74 v75 v69
  let c4_i32_49 : BitVec 32 := 4#32
  let v79 : BitVec 32 := Scalar.muli v76 c4_i32_49
  let v80 : BitVec 32 := Scalar.addi v78 v79
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_50 : BitVec 32 := 1#32
  let v81 : BitVec 32 := Scalar.muli v8 c1_i32_50
  let v82 : BitVec 32 := Scalar.addi v80 v81
  v82.toNat
def k0_dev5 (d0 : Dev nD) : Nat :=
  let c0_i32_60 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_59 : BitVec 32 := 16#32
  let v94 : BitVec 32 := Scalar.muli v2 c16_i32_59
  let v95 : BitVec 32 := Scalar.addi c0_i32_60 v94
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_51 : BitVec 32 := 2#32
  let v83 : BitVec 32 := Scalar.addi v5 c2_i32_51
  let c4_i32_52 : BitVec 32 := 4#32
  let c0_i32_53 : BitVec 32 := 0#32
  let v84 : BitVec 1 := Scalar.cmpi .eq c4_i32_52 c0_i32_53
  let c1_i32_54 : BitVec 32 := 1#32
  let v85 : BitVec 32 := Scalar.select v84 c1_i32_54 c4_i32_52
  let v86 : BitVec 32 := Scalar.remsi v83 v85
  let c0_i32_56 : BitVec 32 := 0#32
  let v88 : BitVec 1 := Scalar.cmpi .slt v86 c0_i32_56
  let c0_i32_57 : BitVec 32 := 0#32
  let v89 : BitVec 1 := Scalar.cmpi .slt v85 c0_i32_57
  let v90 : BitVec 1 := Scalar.xori v88 v89
  let c0_i32_55 : BitVec 32 := 0#32
  let v87 : BitVec 1 := Scalar.cmpi .ne v86 c0_i32_55
  let v91 : BitVec 1 := Scalar.andi v90 v87
  let v92 : BitVec 32 := Scalar.addi v86 v85
  let v93 : BitVec 32 := Scalar.select v91 v92 v86
  let c4_i32_61 : BitVec 32 := 4#32
  let v96 : BitVec 32 := Scalar.muli v93 c4_i32_61
  let v97 : BitVec 32 := Scalar.addi v95 v96
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_62 : BitVec 32 := 1#32
  let v98 : BitVec 32 := Scalar.muli v8 c1_i32_62
  let v99 : BitVec 32 := Scalar.addi v97 v98
  v99.toNat
def k0_dev6 (d0 : Dev nD) : Nat :=
  let c0_i32_72 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_71 : BitVec 32 := 16#32
  let v111 : BitVec 32 := Scalar.muli v2 c16_i32_71
  let v112 : BitVec 32 := Scalar.addi c0_i32_72 v111
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_63 : BitVec 32 := 3#32
  let v100 : BitVec 32 := Scalar.addi v5 c3_i32_63
  let c4_i32_64 : BitVec 32 := 4#32
  let c0_i32_65 : BitVec 32 := 0#32
  let v101 : BitVec 1 := Scalar.cmpi .eq c4_i32_64 c0_i32_65
  let c1_i32_66 : BitVec 32 := 1#32
  let v102 : BitVec 32 := Scalar.select v101 c1_i32_66 c4_i32_64
  let v103 : BitVec 32 := Scalar.remsi v100 v102
  let c0_i32_68 : BitVec 32 := 0#32
  let v105 : BitVec 1 := Scalar.cmpi .slt v103 c0_i32_68
  let c0_i32_69 : BitVec 32 := 0#32
  let v106 : BitVec 1 := Scalar.cmpi .slt v102 c0_i32_69
  let v107 : BitVec 1 := Scalar.xori v105 v106
  let c0_i32_67 : BitVec 32 := 0#32
  let v104 : BitVec 1 := Scalar.cmpi .ne v103 c0_i32_67
  let v108 : BitVec 1 := Scalar.andi v107 v104
  let v109 : BitVec 32 := Scalar.addi v103 v102
  let v110 : BitVec 32 := Scalar.select v108 v109 v103
  let c4_i32_73 : BitVec 32 := 4#32
  let v113 : BitVec 32 := Scalar.muli v110 c4_i32_73
  let v114 : BitVec 32 := Scalar.addi v112 v113
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_74 : BitVec 32 := 1#32
  let v115 : BitVec 32 := Scalar.muli v8 c1_i32_74
  let v116 : BitVec 32 := Scalar.addi v114 v115
  v116.toNat
def k0_dev7 (d0 : Dev nD) : Nat :=
  let c0_i32_78 : BitVec 32 := 0#32
  let c1_i32_75 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v117 : BitVec 32 := Scalar.subi c1_i32_75 v2
  let c16_i32_77 : BitVec 32 := 16#32
  let v118 : BitVec 32 := Scalar.muli v117 c16_i32_77
  let v119 : BitVec 32 := Scalar.addi c0_i32_78 v118
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_79 : BitVec 32 := 4#32
  let v120 : BitVec 32 := Scalar.muli v5 c4_i32_79
  let v121 : BitVec 32 := Scalar.addi v119 v120
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_80 : BitVec 32 := 1#32
  let v122 : BitVec 32 := Scalar.muli v8 c1_i32_80
  let v123 : BitVec 32 := Scalar.addi v121 v122
  v123.toNat
def k0_off2 (d0 : Dev nD) (c1_i32_83 : BitVec 32) : Fin 2 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v126 : BitVec 32 := Scalar.addi v8 c1_i32_83
  let c4_i32_84 : BitVec 32 := 4#32
  let c0_i32_85 : BitVec 32 := 0#32
  let v127 : BitVec 1 := Scalar.cmpi .eq c4_i32_84 c0_i32_85
  let c1_i32_86 : BitVec 32 := 1#32
  let v128 : BitVec 32 := Scalar.select v127 c1_i32_86 c4_i32_84
  let v129 : BitVec 32 := Scalar.remsi v126 v128
  let c0_i32_88 : BitVec 32 := 0#32
  let v131 : BitVec 1 := Scalar.cmpi .slt v129 c0_i32_88
  let c0_i32_89 : BitVec 32 := 0#32
  let v132 : BitVec 1 := Scalar.cmpi .slt v128 c0_i32_89
  let v133 : BitVec 1 := Scalar.xori v131 v132
  let c0_i32_87 : BitVec 32 := 0#32
  let v130 : BitVec 1 := Scalar.cmpi .ne v129 c0_i32_87
  let v134 : BitVec 1 := Scalar.andi v133 v130
  let v135 : BitVec 32 := Scalar.addi v129 v128
  let v136 : BitVec 32 := Scalar.select v134 v135 v129
  let c512_i32 : BitVec 32 := 512#32
  let v137 : BitVec 32 := Scalar.muli v136 c512_i32
  let v138 : Index := Scalar.indexCast v137
  ![0, v138.toNat]
def k0_off3 (d0 : Dev nD) : Fin 4 → Nat :=
  let c0_i32_96 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_105 : BitVec 32 := 0#32
  let c0_i32_106 : BitVec 32 := 0#32
  ![0, v8.toNat, 0, 0]
def k0_dev8 (d0 : Dev nD) : Nat :=
  let c0_i32_102 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_101 : BitVec 32 := 16#32
  let v144 : BitVec 32 := Scalar.muli v2 c16_i32_101
  let v145 : BitVec 32 := Scalar.addi c0_i32_102 v144
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_103 : BitVec 32 := 4#32
  let v146 : BitVec 32 := Scalar.muli v5 c4_i32_103
  let v147 : BitVec 32 := Scalar.addi v145 v146
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_83 : BitVec 32 := 1#32
  let v126 : BitVec 32 := Scalar.addi v8 c1_i32_83
  let c4_i32_84 : BitVec 32 := 4#32
  let c0_i32_85 : BitVec 32 := 0#32
  let v127 : BitVec 1 := Scalar.cmpi .eq c4_i32_84 c0_i32_85
  let c1_i32_86 : BitVec 32 := 1#32
  let v128 : BitVec 32 := Scalar.select v127 c1_i32_86 c4_i32_84
  let v129 : BitVec 32 := Scalar.remsi v126 v128
  let c0_i32_88 : BitVec 32 := 0#32
  let v131 : BitVec 1 := Scalar.cmpi .slt v129 c0_i32_88
  let c0_i32_89 : BitVec 32 := 0#32
  let v132 : BitVec 1 := Scalar.cmpi .slt v128 c0_i32_89
  let v133 : BitVec 1 := Scalar.xori v131 v132
  let c0_i32_87 : BitVec 32 := 0#32
  let v130 : BitVec 1 := Scalar.cmpi .ne v129 c0_i32_87
  let v134 : BitVec 1 := Scalar.andi v133 v130
  let v135 : BitVec 32 := Scalar.addi v129 v128
  let v136 : BitVec 32 := Scalar.select v134 v135 v129
  let c1_i32_104 : BitVec 32 := 1#32
  let v148 : BitVec 32 := Scalar.muli v136 c1_i32_104
  let v149 : BitVec 32 := Scalar.addi v147 v148
  v149.toNat
def k0_dev9 (d0 : Dev nD) : Nat :=
  let c0_i32_129 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_128 : BitVec 32 := 16#32
  let v176 : BitVec 32 := Scalar.muli v2 c16_i32_128
  let v177 : BitVec 32 := Scalar.addi c0_i32_129 v176
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_130 : BitVec 32 := 4#32
  let v178 : BitVec 32 := Scalar.muli v5 c4_i32_130
  let v179 : BitVec 32 := Scalar.addi v177 v178
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_109 : BitVec 32 := 2#32
  let v158 : BitVec 32 := Scalar.addi v8 c2_i32_109
  let c4_i32_110 : BitVec 32 := 4#32
  let c0_i32_111 : BitVec 32 := 0#32
  let v159 : BitVec 1 := Scalar.cmpi .eq c4_i32_110 c0_i32_111
  let c1_i32_112 : BitVec 32 := 1#32
  let v160 : BitVec 32 := Scalar.select v159 c1_i32_112 c4_i32_110
  let v161 : BitVec 32 := Scalar.remsi v158 v160
  let c0_i32_114 : BitVec 32 := 0#32
  let v163 : BitVec 1 := Scalar.cmpi .slt v161 c0_i32_114
  let c0_i32_115 : BitVec 32 := 0#32
  let v164 : BitVec 1 := Scalar.cmpi .slt v160 c0_i32_115
  let v165 : BitVec 1 := Scalar.xori v163 v164
  let c0_i32_113 : BitVec 32 := 0#32
  let v162 : BitVec 1 := Scalar.cmpi .ne v161 c0_i32_113
  let v166 : BitVec 1 := Scalar.andi v165 v162
  let v167 : BitVec 32 := Scalar.addi v161 v160
  let v168 : BitVec 32 := Scalar.select v166 v167 v161
  let c1_i32_131 : BitVec 32 := 1#32
  let v180 : BitVec 32 := Scalar.muli v168 c1_i32_131
  let v181 : BitVec 32 := Scalar.addi v179 v180
  v181.toNat
def k0_dev10 (d0 : Dev nD) : Nat :=
  let c0_i32_156 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_155 : BitVec 32 := 16#32
  let v208 : BitVec 32 := Scalar.muli v2 c16_i32_155
  let v209 : BitVec 32 := Scalar.addi c0_i32_156 v208
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_157 : BitVec 32 := 4#32
  let v210 : BitVec 32 := Scalar.muli v5 c4_i32_157
  let v211 : BitVec 32 := Scalar.addi v209 v210
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_136 : BitVec 32 := 3#32
  let v190 : BitVec 32 := Scalar.addi v8 c3_i32_136
  let c4_i32_137 : BitVec 32 := 4#32
  let c0_i32_138 : BitVec 32 := 0#32
  let v191 : BitVec 1 := Scalar.cmpi .eq c4_i32_137 c0_i32_138
  let c1_i32_139 : BitVec 32 := 1#32
  let v192 : BitVec 32 := Scalar.select v191 c1_i32_139 c4_i32_137
  let v193 : BitVec 32 := Scalar.remsi v190 v192
  let c0_i32_141 : BitVec 32 := 0#32
  let v195 : BitVec 1 := Scalar.cmpi .slt v193 c0_i32_141
  let c0_i32_142 : BitVec 32 := 0#32
  let v196 : BitVec 1 := Scalar.cmpi .slt v192 c0_i32_142
  let v197 : BitVec 1 := Scalar.xori v195 v196
  let c0_i32_140 : BitVec 32 := 0#32
  let v194 : BitVec 1 := Scalar.cmpi .ne v193 c0_i32_140
  let v198 : BitVec 1 := Scalar.andi v197 v194
  let v199 : BitVec 32 := Scalar.addi v193 v192
  let v200 : BitVec 32 := Scalar.select v198 v199 v193
  let c1_i32_158 : BitVec 32 := 1#32
  let v212 : BitVec 32 := Scalar.muli v200 c1_i32_158
  let v213 : BitVec 32 := Scalar.addi v211 v212
  v213.toNat
def k0_off4 (d0 : Dev nD) : Fin 2 → Nat :=
  let c0_164 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_163 : BitVec 32 := 512#32
  let v222 : BitVec 32 := Scalar.muli v8 c512_i32_163
  let v223 : Index := Scalar.indexCast v222
  ![0, v223.toNat]
def k0_off5 (d0 : Dev nD) : Fin 4 → Nat :=
  let c0_165 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v226 : Index := Scalar.indexCast v8
  let c0_166 : Index := 0#32
  let c0_167 : Index := 0#32
  ![0, v226.toNat, 0, 0]
def k0_off6 (d0 : Dev nD) (c1_i32_168 : BitVec 32) : Fin 2 → Nat :=
  let c64 : Index := 64#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v230 : BitVec 32 := Scalar.addi v8 c1_i32_168
  let c4_i32_169 : BitVec 32 := 4#32
  let c0_i32_170 : BitVec 32 := 0#32
  let v231 : BitVec 1 := Scalar.cmpi .eq c4_i32_169 c0_i32_170
  let c1_i32_171 : BitVec 32 := 1#32
  let v232 : BitVec 32 := Scalar.select v231 c1_i32_171 c4_i32_169
  let v233 : BitVec 32 := Scalar.remsi v230 v232
  let c0_i32_173 : BitVec 32 := 0#32
  let v235 : BitVec 1 := Scalar.cmpi .slt v233 c0_i32_173
  let c0_i32_174 : BitVec 32 := 0#32
  let v236 : BitVec 1 := Scalar.cmpi .slt v232 c0_i32_174
  let v237 : BitVec 1 := Scalar.xori v235 v236
  let c0_i32_172 : BitVec 32 := 0#32
  let v234 : BitVec 1 := Scalar.cmpi .ne v233 c0_i32_172
  let v238 : BitVec 1 := Scalar.andi v237 v234
  let v239 : BitVec 32 := Scalar.addi v233 v232
  let v240 : BitVec 32 := Scalar.select v238 v239 v233
  let c512_i32_175 : BitVec 32 := 512#32
  let v241 : BitVec 32 := Scalar.muli v240 c512_i32_175
  let v242 : Index := Scalar.indexCast v241
  ![64, v242.toNat]
def k0_off7 (d0 : Dev nD) : Fin 4 → Nat :=
  let c1_i32_182 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_191 : BitVec 32 := 0#32
  let c0_i32_192 : BitVec 32 := 0#32
  ![1, v8.toNat, 0, 0]
def k0_dev11 (d0 : Dev nD) : Nat :=
  let c0_i32_188 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_187 : BitVec 32 := 16#32
  let v248 : BitVec 32 := Scalar.muli v2 c16_i32_187
  let v249 : BitVec 32 := Scalar.addi c0_i32_188 v248
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_189 : BitVec 32 := 4#32
  let v250 : BitVec 32 := Scalar.muli v5 c4_i32_189
  let v251 : BitVec 32 := Scalar.addi v249 v250
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_168 : BitVec 32 := 1#32
  let v230 : BitVec 32 := Scalar.addi v8 c1_i32_168
  let c4_i32_169 : BitVec 32 := 4#32
  let c0_i32_170 : BitVec 32 := 0#32
  let v231 : BitVec 1 := Scalar.cmpi .eq c4_i32_169 c0_i32_170
  let c1_i32_171 : BitVec 32 := 1#32
  let v232 : BitVec 32 := Scalar.select v231 c1_i32_171 c4_i32_169
  let v233 : BitVec 32 := Scalar.remsi v230 v232
  let c0_i32_173 : BitVec 32 := 0#32
  let v235 : BitVec 1 := Scalar.cmpi .slt v233 c0_i32_173
  let c0_i32_174 : BitVec 32 := 0#32
  let v236 : BitVec 1 := Scalar.cmpi .slt v232 c0_i32_174
  let v237 : BitVec 1 := Scalar.xori v235 v236
  let c0_i32_172 : BitVec 32 := 0#32
  let v234 : BitVec 1 := Scalar.cmpi .ne v233 c0_i32_172
  let v238 : BitVec 1 := Scalar.andi v237 v234
  let v239 : BitVec 32 := Scalar.addi v233 v232
  let v240 : BitVec 32 := Scalar.select v238 v239 v233
  let c1_i32_190 : BitVec 32 := 1#32
  let v252 : BitVec 32 := Scalar.muli v240 c1_i32_190
  let v253 : BitVec 32 := Scalar.addi v251 v252
  v253.toNat
def k0_dev12 (d0 : Dev nD) : Nat :=
  let c0_i32_216 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_215 : BitVec 32 := 16#32
  let v280 : BitVec 32 := Scalar.muli v2 c16_i32_215
  let v281 : BitVec 32 := Scalar.addi c0_i32_216 v280
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_217 : BitVec 32 := 4#32
  let v282 : BitVec 32 := Scalar.muli v5 c4_i32_217
  let v283 : BitVec 32 := Scalar.addi v281 v282
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_195 : BitVec 32 := 2#32
  let v262 : BitVec 32 := Scalar.addi v8 c2_i32_195
  let c4_i32_196 : BitVec 32 := 4#32
  let c0_i32_197 : BitVec 32 := 0#32
  let v263 : BitVec 1 := Scalar.cmpi .eq c4_i32_196 c0_i32_197
  let c1_i32_198 : BitVec 32 := 1#32
  let v264 : BitVec 32 := Scalar.select v263 c1_i32_198 c4_i32_196
  let v265 : BitVec 32 := Scalar.remsi v262 v264
  let c0_i32_200 : BitVec 32 := 0#32
  let v267 : BitVec 1 := Scalar.cmpi .slt v265 c0_i32_200
  let c0_i32_201 : BitVec 32 := 0#32
  let v268 : BitVec 1 := Scalar.cmpi .slt v264 c0_i32_201
  let v269 : BitVec 1 := Scalar.xori v267 v268
  let c0_i32_199 : BitVec 32 := 0#32
  let v266 : BitVec 1 := Scalar.cmpi .ne v265 c0_i32_199
  let v270 : BitVec 1 := Scalar.andi v269 v266
  let v271 : BitVec 32 := Scalar.addi v265 v264
  let v272 : BitVec 32 := Scalar.select v270 v271 v265
  let c1_i32_218 : BitVec 32 := 1#32
  let v284 : BitVec 32 := Scalar.muli v272 c1_i32_218
  let v285 : BitVec 32 := Scalar.addi v283 v284
  v285.toNat
def k0_dev13 (d0 : Dev nD) : Nat :=
  let c0_i32_244 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_243 : BitVec 32 := 16#32
  let v312 : BitVec 32 := Scalar.muli v2 c16_i32_243
  let v313 : BitVec 32 := Scalar.addi c0_i32_244 v312
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_245 : BitVec 32 := 4#32
  let v314 : BitVec 32 := Scalar.muli v5 c4_i32_245
  let v315 : BitVec 32 := Scalar.addi v313 v314
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_223 : BitVec 32 := 3#32
  let v294 : BitVec 32 := Scalar.addi v8 c3_i32_223
  let c4_i32_224 : BitVec 32 := 4#32
  let c0_i32_225 : BitVec 32 := 0#32
  let v295 : BitVec 1 := Scalar.cmpi .eq c4_i32_224 c0_i32_225
  let c1_i32_226 : BitVec 32 := 1#32
  let v296 : BitVec 32 := Scalar.select v295 c1_i32_226 c4_i32_224
  let v297 : BitVec 32 := Scalar.remsi v294 v296
  let c0_i32_228 : BitVec 32 := 0#32
  let v299 : BitVec 1 := Scalar.cmpi .slt v297 c0_i32_228
  let c0_i32_229 : BitVec 32 := 0#32
  let v300 : BitVec 1 := Scalar.cmpi .slt v296 c0_i32_229
  let v301 : BitVec 1 := Scalar.xori v299 v300
  let c0_i32_227 : BitVec 32 := 0#32
  let v298 : BitVec 1 := Scalar.cmpi .ne v297 c0_i32_227
  let v302 : BitVec 1 := Scalar.andi v301 v298
  let v303 : BitVec 32 := Scalar.addi v297 v296
  let v304 : BitVec 32 := Scalar.select v302 v303 v297
  let c1_i32_246 : BitVec 32 := 1#32
  let v316 : BitVec 32 := Scalar.muli v304 c1_i32_246
  let v317 : BitVec 32 := Scalar.addi v315 v316
  v317.toNat
def k0_off8 (d0 : Dev nD) : Fin 2 → Nat :=
  let c64_252 : Index := 64#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_251 : BitVec 32 := 512#32
  let v326 : BitVec 32 := Scalar.muli v8 c512_i32_251
  let v327 : Index := Scalar.indexCast v326
  ![64, v327.toNat]
def k0_off9 (d0 : Dev nD) : Fin 4 → Nat :=
  let c1_253 : Index := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v330 : Index := Scalar.indexCast v8
  let c0_254 : Index := 0#32
  let c0_255 : Index := 0#32
  ![1, v330.toNat, 0, 0]
def k0_off10 (d0 : Dev nD) (c1_i32_257 : BitVec 32) : Fin 4 → Nat :=
  let c0_i32_266 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_256 : BitVec 32 := 4#32
  let v334 : BitVec 32 := Scalar.addi v8 c4_i32_256
  let v335 : BitVec 32 := Scalar.subi v334 c1_i32_257
  let c4_i32_258 : BitVec 32 := 4#32
  let c0_i32_259 : BitVec 32 := 0#32
  let v336 : BitVec 1 := Scalar.cmpi .eq c4_i32_258 c0_i32_259
  let c1_i32_260 : BitVec 32 := 1#32
  let v337 : BitVec 32 := Scalar.select v336 c1_i32_260 c4_i32_258
  let v338 : BitVec 32 := Scalar.remsi v335 v337
  let c0_i32_262 : BitVec 32 := 0#32
  let v340 : BitVec 1 := Scalar.cmpi .slt v338 c0_i32_262
  let c0_i32_263 : BitVec 32 := 0#32
  let v341 : BitVec 1 := Scalar.cmpi .slt v337 c0_i32_263
  let v342 : BitVec 1 := Scalar.xori v340 v341
  let c0_i32_261 : BitVec 32 := 0#32
  let v339 : BitVec 1 := Scalar.cmpi .ne v338 c0_i32_261
  let v343 : BitVec 1 := Scalar.andi v342 v339
  let v344 : BitVec 32 := Scalar.addi v338 v337
  let v345 : BitVec 32 := Scalar.select v343 v344 v338
  let c0_i32_275 : BitVec 32 := 0#32
  let c0_i32_276 : BitVec 32 := 0#32
  ![0, v345.toNat, 0, 0]
def k0_off11 (d0 : Dev nD) (c0_i32_340 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.muli v5 c2_i32_2
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.addi v9 v2
  let c128_i32 : BitVec 32 := 128#32
  let v11 : BitVec 32 := Scalar.muli v10 c128_i32
  let v417 : BitVec 32 := Scalar.addi v11 c0_i32_340
  let v418 : Index := Scalar.indexCast v417
  let c0_341 : Index := 0#32
  ![v418.toNat, 0]
def k0_off12 (d0 : Dev nD) (c0_i32_342 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.muli v5 c2_i32_2
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.addi v9 v2
  let c128_i32 : BitVec 32 := 128#32
  let v11 : BitVec 32 := Scalar.muli v10 c128_i32
  let v420 : BitVec 32 := Scalar.addi v11 c0_i32_342
  let c0_i32_358 : BitVec 32 := 0#32
  ![v420.toNat, 0]
def k0_dev14 (d0 : Dev nD) : Nat :=
  let c0_i32_355 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_354 : BitVec 32 := 16#32
  let v432 : BitVec 32 := Scalar.muli v2 c16_i32_354
  let v433 : BitVec 32 := Scalar.addi c0_i32_355 v432
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_343 : BitVec 32 := 1#32
  let v421 : BitVec 32 := Scalar.addi v5 c1_i32_343
  let c4_i32_344 : BitVec 32 := 4#32
  let c0_i32_345 : BitVec 32 := 0#32
  let v422 : BitVec 1 := Scalar.cmpi .eq c4_i32_344 c0_i32_345
  let c1_i32_346 : BitVec 32 := 1#32
  let v423 : BitVec 32 := Scalar.select v422 c1_i32_346 c4_i32_344
  let v424 : BitVec 32 := Scalar.remsi v421 v423
  let c0_i32_348 : BitVec 32 := 0#32
  let v426 : BitVec 1 := Scalar.cmpi .slt v424 c0_i32_348
  let c0_i32_349 : BitVec 32 := 0#32
  let v427 : BitVec 1 := Scalar.cmpi .slt v423 c0_i32_349
  let v428 : BitVec 1 := Scalar.xori v426 v427
  let c0_i32_347 : BitVec 32 := 0#32
  let v425 : BitVec 1 := Scalar.cmpi .ne v424 c0_i32_347
  let v429 : BitVec 1 := Scalar.andi v428 v425
  let v430 : BitVec 32 := Scalar.addi v424 v423
  let v431 : BitVec 32 := Scalar.select v429 v430 v424
  let c4_i32_356 : BitVec 32 := 4#32
  let v434 : BitVec 32 := Scalar.muli v431 c4_i32_356
  let v435 : BitVec 32 := Scalar.addi v433 v434
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_357 : BitVec 32 := 1#32
  let v436 : BitVec 32 := Scalar.muli v8 c1_i32_357
  let v437 : BitVec 32 := Scalar.addi v435 v436
  v437.toNat
def k0_dev15 (d0 : Dev nD) : Nat :=
  let c0_i32_372 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_371 : BitVec 32 := 16#32
  let v455 : BitVec 32 := Scalar.muli v2 c16_i32_371
  let v456 : BitVec 32 := Scalar.addi c0_i32_372 v455
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_360 : BitVec 32 := 2#32
  let v444 : BitVec 32 := Scalar.addi v5 c2_i32_360
  let c4_i32_361 : BitVec 32 := 4#32
  let c0_i32_362 : BitVec 32 := 0#32
  let v445 : BitVec 1 := Scalar.cmpi .eq c4_i32_361 c0_i32_362
  let c1_i32_363 : BitVec 32 := 1#32
  let v446 : BitVec 32 := Scalar.select v445 c1_i32_363 c4_i32_361
  let v447 : BitVec 32 := Scalar.remsi v444 v446
  let c0_i32_365 : BitVec 32 := 0#32
  let v449 : BitVec 1 := Scalar.cmpi .slt v447 c0_i32_365
  let c0_i32_366 : BitVec 32 := 0#32
  let v450 : BitVec 1 := Scalar.cmpi .slt v446 c0_i32_366
  let v451 : BitVec 1 := Scalar.xori v449 v450
  let c0_i32_364 : BitVec 32 := 0#32
  let v448 : BitVec 1 := Scalar.cmpi .ne v447 c0_i32_364
  let v452 : BitVec 1 := Scalar.andi v451 v448
  let v453 : BitVec 32 := Scalar.addi v447 v446
  let v454 : BitVec 32 := Scalar.select v452 v453 v447
  let c4_i32_373 : BitVec 32 := 4#32
  let v457 : BitVec 32 := Scalar.muli v454 c4_i32_373
  let v458 : BitVec 32 := Scalar.addi v456 v457
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_374 : BitVec 32 := 1#32
  let v459 : BitVec 32 := Scalar.muli v8 c1_i32_374
  let v460 : BitVec 32 := Scalar.addi v458 v459
  v460.toNat
def k0_dev16 (d0 : Dev nD) : Nat :=
  let c0_i32_389 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_388 : BitVec 32 := 16#32
  let v478 : BitVec 32 := Scalar.muli v2 c16_i32_388
  let v479 : BitVec 32 := Scalar.addi c0_i32_389 v478
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_377 : BitVec 32 := 3#32
  let v467 : BitVec 32 := Scalar.addi v5 c3_i32_377
  let c4_i32_378 : BitVec 32 := 4#32
  let c0_i32_379 : BitVec 32 := 0#32
  let v468 : BitVec 1 := Scalar.cmpi .eq c4_i32_378 c0_i32_379
  let c1_i32_380 : BitVec 32 := 1#32
  let v469 : BitVec 32 := Scalar.select v468 c1_i32_380 c4_i32_378
  let v470 : BitVec 32 := Scalar.remsi v467 v469
  let c0_i32_382 : BitVec 32 := 0#32
  let v472 : BitVec 1 := Scalar.cmpi .slt v470 c0_i32_382
  let c0_i32_383 : BitVec 32 := 0#32
  let v473 : BitVec 1 := Scalar.cmpi .slt v469 c0_i32_383
  let v474 : BitVec 1 := Scalar.xori v472 v473
  let c0_i32_381 : BitVec 32 := 0#32
  let v471 : BitVec 1 := Scalar.cmpi .ne v470 c0_i32_381
  let v475 : BitVec 1 := Scalar.andi v474 v471
  let v476 : BitVec 32 := Scalar.addi v470 v469
  let v477 : BitVec 32 := Scalar.select v475 v476 v470
  let c4_i32_390 : BitVec 32 := 4#32
  let v480 : BitVec 32 := Scalar.muli v477 c4_i32_390
  let v481 : BitVec 32 := Scalar.addi v479 v480
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_391 : BitVec 32 := 1#32
  let v482 : BitVec 32 := Scalar.muli v8 c1_i32_391
  let v483 : BitVec 32 := Scalar.addi v481 v482
  v483.toNat
def k0_dev17 (d0 : Dev nD) : Nat :=
  let c0_i32_400 : BitVec 32 := 0#32
  let c1_i32_394 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v490 : BitVec 32 := Scalar.subi c1_i32_394 v2
  let c16_i32_399 : BitVec 32 := 16#32
  let v491 : BitVec 32 := Scalar.muli v490 c16_i32_399
  let v492 : BitVec 32 := Scalar.addi c0_i32_400 v491
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_401 : BitVec 32 := 4#32
  let v493 : BitVec 32 := Scalar.muli v5 c4_i32_401
  let v494 : BitVec 32 := Scalar.addi v492 v493
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_402 : BitVec 32 := 1#32
  let v495 : BitVec 32 := Scalar.muli v8 c1_i32_402
  let v496 : BitVec 32 := Scalar.addi v494 v495
  v496.toNat
def k0_off13 (d0 : Dev nD) (c1_i32_406 : BitVec 32) : Fin 4 → Nat :=
  let c1_i32_415 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_405 : BitVec 32 := 4#32
  let v503 : BitVec 32 := Scalar.addi v8 c4_i32_405
  let v504 : BitVec 32 := Scalar.subi v503 c1_i32_406
  let c4_i32_407 : BitVec 32 := 4#32
  let c0_i32_408 : BitVec 32 := 0#32
  let v505 : BitVec 1 := Scalar.cmpi .eq c4_i32_407 c0_i32_408
  let c1_i32_409 : BitVec 32 := 1#32
  let v506 : BitVec 32 := Scalar.select v505 c1_i32_409 c4_i32_407
  let v507 : BitVec 32 := Scalar.remsi v504 v506
  let c0_i32_411 : BitVec 32 := 0#32
  let v509 : BitVec 1 := Scalar.cmpi .slt v507 c0_i32_411
  let c0_i32_412 : BitVec 32 := 0#32
  let v510 : BitVec 1 := Scalar.cmpi .slt v506 c0_i32_412
  let v511 : BitVec 1 := Scalar.xori v509 v510
  let c0_i32_410 : BitVec 32 := 0#32
  let v508 : BitVec 1 := Scalar.cmpi .ne v507 c0_i32_410
  let v512 : BitVec 1 := Scalar.andi v511 v508
  let v513 : BitVec 32 := Scalar.addi v507 v506
  let v514 : BitVec 32 := Scalar.select v512 v513 v507
  let c0_i32_424 : BitVec 32 := 0#32
  let c0_i32_425 : BitVec 32 := 0#32
  ![1, v514.toNat, 0, 0]
def k0_dev18 (d0 : Dev nD) : Nat :=
  let c0_i32_504 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_503 : BitVec 32 := 16#32
  let v601 : BitVec 32 := Scalar.muli v2 c16_i32_503
  let v602 : BitVec 32 := Scalar.addi c0_i32_504 v601
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_492 : BitVec 32 := 1#32
  let v590 : BitVec 32 := Scalar.addi v5 c1_i32_492
  let c4_i32_493 : BitVec 32 := 4#32
  let c0_i32_494 : BitVec 32 := 0#32
  let v591 : BitVec 1 := Scalar.cmpi .eq c4_i32_493 c0_i32_494
  let c1_i32_495 : BitVec 32 := 1#32
  let v592 : BitVec 32 := Scalar.select v591 c1_i32_495 c4_i32_493
  let v593 : BitVec 32 := Scalar.remsi v590 v592
  let c0_i32_497 : BitVec 32 := 0#32
  let v595 : BitVec 1 := Scalar.cmpi .slt v593 c0_i32_497
  let c0_i32_498 : BitVec 32 := 0#32
  let v596 : BitVec 1 := Scalar.cmpi .slt v592 c0_i32_498
  let v597 : BitVec 1 := Scalar.xori v595 v596
  let c0_i32_496 : BitVec 32 := 0#32
  let v594 : BitVec 1 := Scalar.cmpi .ne v593 c0_i32_496
  let v598 : BitVec 1 := Scalar.andi v597 v594
  let v599 : BitVec 32 := Scalar.addi v593 v592
  let v600 : BitVec 32 := Scalar.select v598 v599 v593
  let c4_i32_505 : BitVec 32 := 4#32
  let v603 : BitVec 32 := Scalar.muli v600 c4_i32_505
  let v604 : BitVec 32 := Scalar.addi v602 v603
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_506 : BitVec 32 := 1#32
  let v605 : BitVec 32 := Scalar.muli v8 c1_i32_506
  let v606 : BitVec 32 := Scalar.addi v604 v605
  v606.toNat
def k0_dev19 (d0 : Dev nD) : Nat :=
  let c0_i32_521 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_520 : BitVec 32 := 16#32
  let v624 : BitVec 32 := Scalar.muli v2 c16_i32_520
  let v625 : BitVec 32 := Scalar.addi c0_i32_521 v624
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_509 : BitVec 32 := 2#32
  let v613 : BitVec 32 := Scalar.addi v5 c2_i32_509
  let c4_i32_510 : BitVec 32 := 4#32
  let c0_i32_511 : BitVec 32 := 0#32
  let v614 : BitVec 1 := Scalar.cmpi .eq c4_i32_510 c0_i32_511
  let c1_i32_512 : BitVec 32 := 1#32
  let v615 : BitVec 32 := Scalar.select v614 c1_i32_512 c4_i32_510
  let v616 : BitVec 32 := Scalar.remsi v613 v615
  let c0_i32_514 : BitVec 32 := 0#32
  let v618 : BitVec 1 := Scalar.cmpi .slt v616 c0_i32_514
  let c0_i32_515 : BitVec 32 := 0#32
  let v619 : BitVec 1 := Scalar.cmpi .slt v615 c0_i32_515
  let v620 : BitVec 1 := Scalar.xori v618 v619
  let c0_i32_513 : BitVec 32 := 0#32
  let v617 : BitVec 1 := Scalar.cmpi .ne v616 c0_i32_513
  let v621 : BitVec 1 := Scalar.andi v620 v617
  let v622 : BitVec 32 := Scalar.addi v616 v615
  let v623 : BitVec 32 := Scalar.select v621 v622 v616
  let c4_i32_522 : BitVec 32 := 4#32
  let v626 : BitVec 32 := Scalar.muli v623 c4_i32_522
  let v627 : BitVec 32 := Scalar.addi v625 v626
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_523 : BitVec 32 := 1#32
  let v628 : BitVec 32 := Scalar.muli v8 c1_i32_523
  let v629 : BitVec 32 := Scalar.addi v627 v628
  v629.toNat
def k0_dev20 (d0 : Dev nD) : Nat :=
  let c0_i32_538 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_537 : BitVec 32 := 16#32
  let v647 : BitVec 32 := Scalar.muli v2 c16_i32_537
  let v648 : BitVec 32 := Scalar.addi c0_i32_538 v647
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_526 : BitVec 32 := 3#32
  let v636 : BitVec 32 := Scalar.addi v5 c3_i32_526
  let c4_i32_527 : BitVec 32 := 4#32
  let c0_i32_528 : BitVec 32 := 0#32
  let v637 : BitVec 1 := Scalar.cmpi .eq c4_i32_527 c0_i32_528
  let c1_i32_529 : BitVec 32 := 1#32
  let v638 : BitVec 32 := Scalar.select v637 c1_i32_529 c4_i32_527
  let v639 : BitVec 32 := Scalar.remsi v636 v638
  let c0_i32_531 : BitVec 32 := 0#32
  let v641 : BitVec 1 := Scalar.cmpi .slt v639 c0_i32_531
  let c0_i32_532 : BitVec 32 := 0#32
  let v642 : BitVec 1 := Scalar.cmpi .slt v638 c0_i32_532
  let v643 : BitVec 1 := Scalar.xori v641 v642
  let c0_i32_530 : BitVec 32 := 0#32
  let v640 : BitVec 1 := Scalar.cmpi .ne v639 c0_i32_530
  let v644 : BitVec 1 := Scalar.andi v643 v640
  let v645 : BitVec 32 := Scalar.addi v639 v638
  let v646 : BitVec 32 := Scalar.select v644 v645 v639
  let c4_i32_539 : BitVec 32 := 4#32
  let v649 : BitVec 32 := Scalar.muli v646 c4_i32_539
  let v650 : BitVec 32 := Scalar.addi v648 v649
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_540 : BitVec 32 := 1#32
  let v651 : BitVec 32 := Scalar.muli v8 c1_i32_540
  let v652 : BitVec 32 := Scalar.addi v650 v651
  v652.toNat
def k0_dev21 (d0 : Dev nD) : Nat :=
  let c0_i32_549 : BitVec 32 := 0#32
  let c1_i32_543 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v659 : BitVec 32 := Scalar.subi c1_i32_543 v2
  let c16_i32_548 : BitVec 32 := 16#32
  let v660 : BitVec 32 := Scalar.muli v659 c16_i32_548
  let v661 : BitVec 32 := Scalar.addi c0_i32_549 v660
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_550 : BitVec 32 := 4#32
  let v662 : BitVec 32 := Scalar.muli v5 c4_i32_550
  let v663 : BitVec 32 := Scalar.addi v661 v662
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_551 : BitVec 32 := 1#32
  let v664 : BitVec 32 := Scalar.muli v8 c1_i32_551
  let v665 : BitVec 32 := Scalar.addi v663 v664
  v665.toNat
def k0_off14 (d0 : Dev nD) (c1_i32_555 : BitVec 32) (c0_i32_564 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_554 : BitVec 32 := 4#32
  let v672 : BitVec 32 := Scalar.addi v5 c4_i32_554
  let v673 : BitVec 32 := Scalar.subi v672 c1_i32_555
  let c4_i32_556 : BitVec 32 := 4#32
  let c0_i32_557 : BitVec 32 := 0#32
  let v674 : BitVec 1 := Scalar.cmpi .eq c4_i32_556 c0_i32_557
  let c1_i32_558 : BitVec 32 := 1#32
  let v675 : BitVec 32 := Scalar.select v674 c1_i32_558 c4_i32_556
  let v676 : BitVec 32 := Scalar.remsi v673 v675
  let c0_i32_560 : BitVec 32 := 0#32
  let v678 : BitVec 1 := Scalar.cmpi .slt v676 c0_i32_560
  let c0_i32_561 : BitVec 32 := 0#32
  let v679 : BitVec 1 := Scalar.cmpi .slt v675 c0_i32_561
  let v680 : BitVec 1 := Scalar.xori v678 v679
  let c0_i32_559 : BitVec 32 := 0#32
  let v677 : BitVec 1 := Scalar.cmpi .ne v676 c0_i32_559
  let v681 : BitVec 1 := Scalar.andi v680 v677
  let v682 : BitVec 32 := Scalar.addi v676 v675
  let v683 : BitVec 32 := Scalar.select v681 v682 v676
  let c2_i32_562 : BitVec 32 := 2#32
  let v684 : BitVec 32 := Scalar.muli v683 c2_i32_562
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v685 : BitVec 32 := Scalar.addi v684 v2
  let c128_i32_563 : BitVec 32 := 128#32
  let v686 : BitVec 32 := Scalar.muli v685 c128_i32_563
  let v687 : BitVec 32 := Scalar.addi v686 c0_i32_564
  let c0_i32_573 : BitVec 32 := 0#32
  ![v687.toNat, 0]
def k0_dev22 (d0 : Dev nD) : Nat :=
  let c0_i32_581 : BitVec 32 := 0#32
  let c1_i32_575 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v698 : BitVec 32 := Scalar.subi c1_i32_575 v2
  let c16_i32_580 : BitVec 32 := 16#32
  let v699 : BitVec 32 := Scalar.muli v698 c16_i32_580
  let v700 : BitVec 32 := Scalar.addi c0_i32_581 v699
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_582 : BitVec 32 := 4#32
  let v701 : BitVec 32 := Scalar.muli v5 c4_i32_582
  let v702 : BitVec 32 := Scalar.addi v700 v701
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_583 : BitVec 32 := 1#32
  let v703 : BitVec 32 := Scalar.muli v8 c1_i32_583
  let v704 : BitVec 32 := Scalar.addi v702 v703
  v704.toNat
def k0_dev23 (d0 : Dev nD) : Nat :=
  let c0_i32_613 : BitVec 32 := 0#32
  let c1_i32_607 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v737 : BitVec 32 := Scalar.subi c1_i32_607 v2
  let c16_i32_612 : BitVec 32 := 16#32
  let v738 : BitVec 32 := Scalar.muli v737 c16_i32_612
  let v739 : BitVec 32 := Scalar.addi c0_i32_613 v738
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_614 : BitVec 32 := 4#32
  let v740 : BitVec 32 := Scalar.muli v5 c4_i32_614
  let v741 : BitVec 32 := Scalar.addi v739 v740
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_615 : BitVec 32 := 1#32
  let v742 : BitVec 32 := Scalar.muli v8 c1_i32_615
  let v743 : BitVec 32 := Scalar.addi v741 v742
  v743.toNat
def k0_dev24 (d0 : Dev nD) : Nat :=
  let c0_i32_645 : BitVec 32 := 0#32
  let c1_i32_639 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v776 : BitVec 32 := Scalar.subi c1_i32_639 v2
  let c16_i32_644 : BitVec 32 := 16#32
  let v777 : BitVec 32 := Scalar.muli v776 c16_i32_644
  let v778 : BitVec 32 := Scalar.addi c0_i32_645 v777
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_646 : BitVec 32 := 4#32
  let v779 : BitVec 32 := Scalar.muli v5 c4_i32_646
  let v780 : BitVec 32 := Scalar.addi v778 v779
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_647 : BitVec 32 := 1#32
  let v781 : BitVec 32 := Scalar.muli v8 c1_i32_647
  let v782 : BitVec 32 := Scalar.addi v780 v781
  v782.toNat
def k0_dev25 (d0 : Dev nD) : Nat :=
  let c0_i32_677 : BitVec 32 := 0#32
  let c1_i32_671 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v815 : BitVec 32 := Scalar.subi c1_i32_671 v2
  let c16_i32_676 : BitVec 32 := 16#32
  let v816 : BitVec 32 := Scalar.muli v815 c16_i32_676
  let v817 : BitVec 32 := Scalar.addi c0_i32_677 v816
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_678 : BitVec 32 := 4#32
  let v818 : BitVec 32 := Scalar.muli v5 c4_i32_678
  let v819 : BitVec 32 := Scalar.addi v817 v818
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_679 : BitVec 32 := 1#32
  let v820 : BitVec 32 := Scalar.muli v8 c1_i32_679
  let v821 : BitVec 32 := Scalar.addi v819 v820
  v821.toNat
def k0_dev26 (d0 : Dev nD) : Nat :=
  let c0_i32_709 : BitVec 32 := 0#32
  let c1_i32_703 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v854 : BitVec 32 := Scalar.subi c1_i32_703 v2
  let c16_i32_708 : BitVec 32 := 16#32
  let v855 : BitVec 32 := Scalar.muli v854 c16_i32_708
  let v856 : BitVec 32 := Scalar.addi c0_i32_709 v855
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_710 : BitVec 32 := 4#32
  let v857 : BitVec 32 := Scalar.muli v5 c4_i32_710
  let v858 : BitVec 32 := Scalar.addi v856 v857
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_711 : BitVec 32 := 1#32
  let v859 : BitVec 32 := Scalar.muli v8 c1_i32_711
  let v860 : BitVec 32 := Scalar.addi v858 v859
  v860.toNat
def k0_dev27 (d0 : Dev nD) : Nat :=
  let c0_i32_741 : BitVec 32 := 0#32
  let c1_i32_735 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v893 : BitVec 32 := Scalar.subi c1_i32_735 v2
  let c16_i32_740 : BitVec 32 := 16#32
  let v894 : BitVec 32 := Scalar.muli v893 c16_i32_740
  let v895 : BitVec 32 := Scalar.addi c0_i32_741 v894
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_742 : BitVec 32 := 4#32
  let v896 : BitVec 32 := Scalar.muli v5 c4_i32_742
  let v897 : BitVec 32 := Scalar.addi v895 v896
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_743 : BitVec 32 := 1#32
  let v898 : BitVec 32 := Scalar.muli v8 c1_i32_743
  let v899 : BitVec 32 := Scalar.addi v897 v898
  v899.toNat
def k0_off15 (d0 : Dev nD) (c0_i32_747 : BitVec 32) (c0_i32_757 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_746 : BitVec 32 := 4#32
  let v906 : BitVec 32 := Scalar.addi v5 c4_i32_746
  let v907 : BitVec 32 := Scalar.subi v906 c0_i32_747
  let c4_i32_748 : BitVec 32 := 4#32
  let c0_i32_749 : BitVec 32 := 0#32
  let v908 : BitVec 1 := Scalar.cmpi .eq c4_i32_748 c0_i32_749
  let c1_i32_750 : BitVec 32 := 1#32
  let v909 : BitVec 32 := Scalar.select v908 c1_i32_750 c4_i32_748
  let v910 : BitVec 32 := Scalar.remsi v907 v909
  let c0_i32_752 : BitVec 32 := 0#32
  let v912 : BitVec 1 := Scalar.cmpi .slt v910 c0_i32_752
  let c0_i32_753 : BitVec 32 := 0#32
  let v913 : BitVec 1 := Scalar.cmpi .slt v909 c0_i32_753
  let v914 : BitVec 1 := Scalar.xori v912 v913
  let c0_i32_751 : BitVec 32 := 0#32
  let v911 : BitVec 1 := Scalar.cmpi .ne v910 c0_i32_751
  let v915 : BitVec 1 := Scalar.andi v914 v911
  let v916 : BitVec 32 := Scalar.addi v910 v909
  let v917 : BitVec 32 := Scalar.select v915 v916 v910
  let c2_i32_754 : BitVec 32 := 2#32
  let v918 : BitVec 32 := Scalar.muli v917 c2_i32_754
  let c1_i32_755 : BitVec 32 := 1#32
  let v919 : BitVec 32 := Scalar.addi v918 c1_i32_755
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v920 : BitVec 32 := Scalar.subi v919 v2
  let c128_i32_756 : BitVec 32 := 128#32
  let v921 : BitVec 32 := Scalar.muli v920 c128_i32_756
  let v922 : BitVec 32 := Scalar.addi v921 c0_i32_757
  let c0_i32_766 : BitVec 32 := 0#32
  ![v922.toNat, 0]
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x1024x2048 : Shape := ⟨3, ![4, 1024, 2048]⟩
abbrev S_ : Shape := ⟨0, ![]⟩
abbrev S1024x2048 : Shape := ⟨2, ![1024, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4x1024x2048, .f32⟩
  | .hbm, ⟨1, _⟩ => ⟨S_, .f32⟩
  | .hbm, ⟨2, _⟩ => ⟨S1024x2048, .f32⟩
  | .hbm, ⟨3, _⟩ => ⟨S1024x2048, .bf16⟩
  | _, _ => ⟨S4x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Mesh.Coords.lean ====
/-
# The mesh: coordinates, peers and the addresses the kernel computes from its device number

A device number is `16 x + 4 y + z` on the mesh `x = 2, y = 4, z = 4`. Device `c` owns the slice of 128 rows
that starts at row `256 y + 128 x`, and within every slice the 512 columns that start at column `512 z`.
-/
module

public import proofs.«01_k».proof.Proof.Gen.KernelIdeal

@[expose] public section

namespace Cert.AllSum

open Cert.KernelIdeal Cert.KernelIdeal.Gen
open Idealize.ShloMosaic Idealize.SL.Sem

/-! ## Coordinates -/

set_option backward.proofsInPublic true in
/-- The device at the coordinates `x`, `y`, `z`. -/
def dv (x : Fin 2) (y z : Fin 4) : Dev nD := ⟨16 * x.val + 4 * y.val + z.val, by
  have := x.isLt; have := y.isLt; have := z.isLt; show _ < 32; omega⟩

set_option backward.proofsInPublic true in
/-- The coordinate along `x`. -/
def cx (c : Dev nD) : Fin 2 := ⟨c.val / 16 % 2, Nat.mod_lt _ (by decide)⟩
set_option backward.proofsInPublic true in
/-- The coordinate along `y`. -/
def cy (c : Dev nD) : Fin 4 := ⟨c.val / 4 % 4, Nat.mod_lt _ (by decide)⟩
set_option backward.proofsInPublic true in
/-- The coordinate along `z`. -/
def cz (c : Dev nD) : Fin 4 := ⟨c.val % 4, Nat.mod_lt _ (by decide)⟩

theorem dv_coords : ∀ c : Dev nD, dv (cx c) (cy c) (cz c) = c := by decide +kernel
theorem cx_dv : ∀ x y z, cx (dv x y z) = x := by decide +kernel
theorem cy_dv : ∀ x y z, cy (dv x y z) = y := by decide +kernel
theorem cz_dv : ∀ x y z, cz (dv x y z) = z := by decide +kernel

/-- Two devices with the same coordinates are the same. -/
theorem dev_ext {c d : Dev nD} (hx : cx c = cx d) (hy : cy c = cy d) (hz : cz c = cz d) : c = d := by
  rw [← dv_coords c, ← dv_coords d, hx, hy, hz]

/-! ## Peers -/

/-- The device `k` further along `z`. -/
def zup (k : Fin 4) : Dev nD ≃ Dev nD where
  toFun c := dv (cx c) (cy c) (cz c + k)
  invFun c := dv (cx c) (cy c) (cz c - k)
  left_inv := by revert k; decide +kernel
  right_inv := by revert k; decide +kernel

/-- The device `k` further along `y`. -/
def yup (k : Fin 4) : Dev nD ≃ Dev nD where
  toFun c := dv (cx c) (cy c + k) (cz c)
  invFun c := dv (cx c) (cy c - k) (cz c)
  left_inv := by revert k; decide +kernel
  right_inv := by revert k; decide +kernel

/-- The other device along `x`. -/
def xsw : Dev nD ≃ Dev nD where
  toFun c := dv (cx c + 1) (cy c) (cz c)
  invFun c := dv (cx c + 1) (cy c) (cz c)
  left_inv := by decide +kernel
  right_inv := by decide +kernel

theorem cx_zup (k c) : cx (zup k c) = cx c := cx_dv _ _ _
theorem cy_zup (k c) : cy (zup k c) = cy c := cy_dv _ _ _
theorem cz_zup (k c) : cz (zup k c) = cz c + k := cz_dv _ _ _
theorem cx_yup (k c) : cx (yup k c) = cx c := cx_dv _ _ _
theorem cy_yup (k c) : cy (yup k c) = cy c + k := cy_dv _ _ _
theorem cz_yup (k c) : cz (yup k c) = cz c := cz_dv _ _ _
theorem cx_xsw (c) : cx (xsw c) = cx c + 1 := cx_dv _ _ _
theorem cy_xsw (c) : cy (xsw c) = cy c := cy_dv _ _ _
theorem cz_xsw (c) : cz (xsw c) = cz c := cz_dv _ _ _

/-! ## The peers the kernel addresses -/

theorem dev1 : ∀ (c : Dev nD) h, (⟨k0_dev1 c, h⟩ : Dev nD) = zup 1 c := by decide +kernel
theorem dev2 : ∀ (c : Dev nD) h, (⟨k0_dev2 c, h⟩ : Dev nD) = zup 2 c := by decide +kernel
theorem dev3 : ∀ (c : Dev nD) h, (⟨k0_dev3 c, h⟩ : Dev nD) = zup 3 c := by decide +kernel
theorem dev4 : ∀ (c : Dev nD) h, (⟨k0_dev4 c, h⟩ : Dev nD) = yup 1 c := by decide +kernel
theorem dev5 : ∀ (c : Dev nD) h, (⟨k0_dev5 c, h⟩ : Dev nD) = yup 2 c := by decide +kernel
theorem dev6 : ∀ (c : Dev nD) h, (⟨k0_dev6 c, h⟩ : Dev nD) = yup 3 c := by decide +kernel
theorem dev7 : ∀ (c : Dev nD) h, (⟨k0_dev7 c, h⟩ : Dev nD) = xsw c := by decide +kernel
theorem dev8 : ∀ (c : Dev nD) h, (⟨k0_dev8 c, h⟩ : Dev nD) = zup 1 c := by decide +kernel
theorem dev9 : ∀ (c : Dev nD) h, (⟨k0_dev9 c, h⟩ : Dev nD) = zup 2 c := by decide +kernel
theorem dev10 : ∀ (c : Dev nD) h, (⟨k0_dev10 c, h⟩ : Dev nD) = zup 3 c := by decide +kernel
theorem dev11 : ∀ (c : Dev nD) h, (⟨k0_dev11 c, h⟩ : Dev nD) = zup 1 c := by decide +kernel
theorem dev12 : ∀ (c : Dev nD) h, (⟨k0_dev12 c, h⟩ : Dev nD) = zup 2 c := by decide +kernel
theorem dev13 : ∀ (c : Dev nD) h, (⟨k0_dev13 c, h⟩ : Dev nD) = zup 3 c := by decide +kernel
theorem dev14 : ∀ (c : Dev nD) h, (⟨k0_dev14 c, h⟩ : Dev nD) = yup 1 c := by decide +kernel
theorem dev15 : ∀ (c : Dev nD) h, (⟨k0_dev15 c, h⟩ : Dev nD) = yup 2 c := by decide +kernel
theorem dev16 : ∀ (c : Dev nD) h, (⟨k0_dev16 c, h⟩ : Dev nD) = yup 3 c := by decide +kernel
theorem dev17 : ∀ (c : Dev nD) h, (⟨k0_dev17 c, h⟩ : Dev nD) = xsw c := by decide +kernel
theorem dev18 : ∀ (c : Dev nD) h, (⟨k0_dev18 c, h⟩ : Dev nD) = yup 1 c := by decide +kernel
theorem dev19 : ∀ (c : Dev nD) h, (⟨k0_dev19 c, h⟩ : Dev nD) = yup 2 c := by decide +kernel
theorem dev20 : ∀ (c : Dev nD) h, (⟨k0_dev20 c, h⟩ : Dev nD) = yup 3 c := by decide +kernel
theorem dev21 : ∀ (c : Dev nD) h, (⟨k0_dev21 c, h⟩ : Dev nD) = xsw c := by decide +kernel
theorem dev22 : ∀ (c : Dev nD) h, (⟨k0_dev22 c, h⟩ : Dev nD) = xsw c := by decide +kernel
theorem dev23 : ∀ (c : Dev nD) h, (⟨k0_dev23 c, h⟩ : Dev nD) = xsw c := by decide +kernel
theorem dev24 : ∀ (c : Dev nD) h, (⟨k0_dev24 c, h⟩ : Dev nD) = xsw c := by decide +kernel
theorem dev25 : ∀ (c : Dev nD) h, (⟨k0_dev25 c, h⟩ : Dev nD) = xsw c := by decide +kernel
theorem dev26 : ∀ (c : Dev nD) h, (⟨k0_dev26 c, h⟩ : Dev nD) = xsw c := by decide +kernel
theorem dev27 : ∀ (c : Dev nD) h, (⟨k0_dev27 c, h⟩ : Dev nD) = xsw c := by decide +kernel

/-! ## The offsets the kernel computes -/

/-- Half `r` of the slice of the devices at `x`, `y`: where it starts among the 1024 rows. -/
def row (y : Fin 4) (x r : Fin 2) : ℕ := 256 * y.val + 128 * x.val + 64 * r.val

theorem off1 : ∀ c : Dev nD, k0_off1 c = ![0, row (cy c) (cx c) 0, 0] := by decide +kernel
theorem off2 : ∀ (c : Dev nD) (j : Fin 3), k0_off2 c (BitVec.ofNat 32 (1 + j.val)) = ![64 * (0 : Fin 2).val, 512 * (cz c + j.succ).val] := by decide +kernel
theorem off3 : ∀ c : Dev nD, k0_off3 c = ![(0 : Fin 2).val, (cz c).val, 0, 0] := by decide +kernel
theorem off4 : ∀ c : Dev nD, k0_off4 c = ![64 * (0 : Fin 2).val, 512 * (cz c).val] := by decide +kernel
theorem off5 : ∀ c : Dev nD, k0_off5 c = ![(0 : Fin 2).val, (cz c).val, 0, 0] := by decide +kernel
theorem off6 : ∀ (c : Dev nD) (j : Fin 3), k0_off6 c (BitVec.ofNat 32 (1 + j.val)) = ![64 * (1 : Fin 2).val, 512 * (cz c + j.succ).val] := by decide +kernel
theorem off7 : ∀ c : Dev nD, k0_off7 c = ![(1 : Fin 2).val, (cz c).val, 0, 0] := by decide +kernel
theorem off8 : ∀ c : Dev nD, k0_off8 c = ![64 * (1 : Fin 2).val, 512 * (cz c).val] := by decide +kernel
theorem off9 : ∀ c : Dev nD, k0_off9 c = ![(1 : Fin 2).val, (cz c).val, 0, 0] := by decide +kernel
theorem off11 : ∀ (c : Dev nD) (r : Fin 2), k0_off11 c (BitVec.ofNat 32 (64 * r.val)) = ![row (cy c) (cx c) r, 0] := by decide +kernel
theorem off12 : ∀ (c : Dev nD) (r : Fin 2), k0_off12 c (BitVec.ofNat 32 (64 * r.val)) = ![row (cy c) (cx c) r, 0] := by decide +kernel
theorem off14 : ∀ (c : Dev nD) (j : Fin 3) (r : Fin 2),
    k0_off14 c (BitVec.ofNat 32 (1 + j.val)) (BitVec.ofNat 32 (64 * r.val)) = ![row (cy c - j.succ) (cx c) r, 0] := by decide +kernel

end Cert.AllSum

end
-- ==== Proof.Mesh.Views.lean ====
/-
# The pieces of the buffers, and what each holds once it is written

Every copy between devices moves one piece of 64 rows and 512 columns. The buffers fall into such pieces: the
staged result into 16 (slice `(y, x)`, half `r`), the receive buffer into 8 (half `r`, sender's `z`), the send
buffer into 6 (half `r`, peer `j`). A buffer has ONE content function here, and a piece, once written, holds that
function: so a copy is right when the source piece's function read at the source is the target's read at the target.
-/
module

public import proofs.«01_k».proof.Proof.Mesh.Coords
public import proofs.«01_k».proof.Proof.Gen.KernelIdeal.Skeleton
public import Idealize.ShloMosaic.Lib.Pointwise.Index
public import Idealize.ShloMosaic.Lib.Writes

@[expose] public section

noncomputable section

namespace Cert.AllSum

open Cert.KernelIdeal Cert.KernelIdeal.Gen
open Idealize.ShloMosaic Idealize.ShloMosaic.TcCoe Idealize.SL.Sem

variable {F : FTy → Type} [FloatOps F]

/-! ## The buffers -/

/-- The argument, in main memory. -/
abbrev aM : Memref sig .tc .hbm S1x1024x2048 .f32 := Memref.whole main_arg0
/-- The staged result. -/
abbrev oM : Memref sig .tc .vmem S1024x512 .bf16 := Memref.whole cc0_stg0_0
/-- The device's own slice of its argument. -/
abbrev xM : Memref sig .tc .vmem S128x2048 .f32 := Memref.whole cc0_scratch0
/-- The send buffer. -/
abbrev sM : Memref sig .tc .vmem S2x3x64x512 .bf16 := Memref.whole cc0_scratch1
/-- The receive buffer. -/
abbrev rM : Memref sig .tc .vmem S2x4x64x512 .bf16 := Memref.whole cc0_scratch2

/-! ## The pieces, at an offset -/

/-- 64 rows of the staged result. -/
abbrev oAt (o : Fin 2 → ℕ) (h : ∀ a, o a + S64x512.size a ≤ S1024x512.size a) : Memref sig .tc .vmem S64x512 .bf16 :=
  oM.slice (Rect.unit (s := S1024x512) o S64x512.size h) (fun _ => rfl)
/-- A piece of the send buffer. -/
abbrev sAt (o : Fin 4 → ℕ) (h : ∀ a, o a + S1x1x64x512.size a ≤ S2x3x64x512.size a) : Memref sig .tc .vmem S64x512 .bf16 :=
  (sM.slice (Rect.unit (s := S2x3x64x512) o S1x1x64x512.size h) (fun _ => rfl)).squeeze S64x512 squeezes_S1x1x64x512_S64x512
/-- A piece of the receive buffer. -/
abbrev rAt (o : Fin 4 → ℕ) (h : ∀ a, o a + S1x1x64x512.size a ≤ S2x4x64x512.size a) : Memref sig .tc .vmem S64x512 .bf16 :=
  (rM.slice (Rect.unit (s := S2x4x64x512) o S1x1x64x512.size h) (fun _ => rfl)).squeeze S64x512 squeezes_S1x1x64x512_S64x512
/-- The device's slice of the argument. -/
abbrev aAt (o : Fin 3 → ℕ) (h : ∀ a, o a + S1x128x2048.size a ≤ S1x1024x2048.size a) : Memref sig .tc .hbm S128x2048 .f32 :=
  (aM.slice (Rect.unit (s := S1x1024x2048) o S1x128x2048.size h) (fun _ => rfl)).squeeze S128x2048 squeezes_S1x128x2048_S128x2048

theorem oAt_congr {o o'} (e : o = o') (h h') : oAt o h = oAt o' h' := by subst e; rfl
theorem sAt_congr {o o'} (e : o = o') (h h') : sAt o h = sAt o' h' := by subst e; rfl
theorem rAt_congr {o o'} (e : o = o') (h h') : rAt o h = rAt o' h' := by subst e; rfl
theorem aAt_congr {o o'} (e : o = o') (h h') : aAt o h = aAt o' h' := by subst e; rfl

/-! ## The pieces, by name -/

theorem inbO : ∀ (y : Fin 4) (x r : Fin 2), ∀ a, (![row y x r, 0] : Fin 2 → ℕ) a + S64x512.size a ≤ S1024x512.size a := by decide +kernel
theorem inbS : ∀ (r : Fin 2) (j : Fin 3), ∀ a, (![r.val, j.val, 0, 0] : Fin 4 → ℕ) a + S1x1x64x512.size a ≤ S2x3x64x512.size a := by decide +kernel
theorem inbR : ∀ (r : Fin 2) (z : Fin 4), ∀ a, (![r.val, z.val, 0, 0] : Fin 4 → ℕ) a + S1x1x64x512.size a ≤ S2x4x64x512.size a := by decide +kernel
theorem inbX : ∀ (r : Fin 2) (b : Fin 4), ∀ a, (![64 * r.val, 512 * b.val] : Fin 2 → ℕ) a + S64x512.size a ≤ S128x2048.size a := by decide +kernel
theorem inbA : ∀ (y : Fin 4) (x : Fin 2), ∀ a, (![0, row y x 0, 0] : Fin 3 → ℕ) a + S1x128x2048.size a ≤ S1x1024x2048.size a := by decide +kernel

/-- Half `r` of the slice `(y, x)` of the staged result. -/
abbrev oV (y : Fin 4) (x r : Fin 2) : Memref sig .tc .vmem S64x512 .bf16 := oAt ![row y x r, 0] (inbO y x r)
/-- Half `r` of what goes to the `j`-th peer along `z`. -/
abbrev sV (r : Fin 2) (j : Fin 3) : Memref sig .tc .vmem S64x512 .bf16 := sAt ![r.val, j.val, 0, 0] (inbS r j)
/-- Half `r` of what the device at `z` contributes. -/
abbrev rV (r : Fin 2) (z : Fin 4) : Memref sig .tc .vmem S64x512 .bf16 := rAt ![r.val, z.val, 0, 0] (inbR r z)
/-- The slice `(y, x)` of the argument. -/
abbrev aV (y : Fin 4) (x : Fin 2) : Memref sig .tc .hbm S128x2048 .f32 := aAt ![0, row y x 0, 0] (inbA y x)

/-! ## Contents -/

section Contents
variable (m : (ℓ : Loc nD τ sig) → Buf (Elt F) ℓ)

/-- Device `c`'s slice of its argument, as it lands in `xM`. -/
def xF (c : Dev nD) : (cc0_scratch0 : Ref sig .tc).ty.Contents (Elt F) :=
  (aV (cy c) (cx c)).view.read (Elt F) (m ((c : Thread nD τ).loc main_arg0))

/-- Rows `64 r` and columns `512 b` of device `c`'s slice of its argument. -/
def xblk (c : Dev nD) (r : Fin 2) (b : Fin 4) : Vec F S64x512 .f32 :=
  (xM.access (Rect.unit (s := S128x2048) ![64 * r.val, 512 * b.val] S64x512.size (inbX r b))).read (Elt F) (xF m c)

/-- What the device at `z` in `c`'s row of the mesh contributes to half `r` of `c`'s slice and columns. -/
def blk (c : Dev nD) (r : Fin 2) (z : Fin 4) : Vec F S1x1x64x512 .bf16 :=
  k0_pay1 (xblk m (dv (cx c) (cy c) z) r (cz c))

/-- Half `r` of `c`'s slice and columns of the sum. -/
def red (c : Dev nD) (r : Fin 2) : Vec F S64x512 .bf16 :=
  k0_pay10 (k0_pay9 (blk m c r 0)) (blk m c r 1) (blk m c r 2) (blk m c r 3)

/-- The send buffer. -/
def sF (c : Dev nD) : (cc0_scratch1 : Ref sig .tc).ty.Contents (Elt F) :=
  fun (i : S2x3x64x512.Idx) => blk m (zup (i 1).succ c) (i 0) (cz c) (ix4 0 0 (i 2) (i 3))

/-- The receive buffer. -/
def rF (c : Dev nD) : (cc0_scratch2 : Ref sig .tc).ty.Contents (Elt F) :=
  fun (i : S2x4x64x512.Idx) => blk m c (i 0) (i 1) (ix4 0 0 (i 2) (i 3))

/-- The staged result of the devices at `z`. -/
def oF (z : Fin 4) : (cc0_stg0_0 : Ref sig .tc).ty.Contents (Elt F) :=
  fun (i : S1024x512.Idx) =>
    red m (dv ⟨(i 0).val / 128 % 2, Nat.mod_lt _ (by decide)⟩ ⟨(i 0).val / 256 % 4, Nat.mod_lt _ (by decide)⟩ z)
      ⟨(i 0).val / 64 % 2, Nat.mod_lt _ (by decide)⟩ (ix2 ⟨(i 0).val % 64, Nat.mod_lt _ (by decide)⟩ (i 1))

/-! ## What the pieces read -/

theorem eq_ix2 (i : S64x512.Idx) : ix2 (i 0) (i 1) = i := by
  funext a; match a with | 0 => rfl | 1 => rfl

theorem eq_ix4 (i : S1x1x64x512.Idx) : ix4 0 0 (i 2) (i 3) = i := by
  funext a
  match a with
  | 0 => exact Subsingleton.elim (α := Fin 1) _ _
  | 1 => exact Subsingleton.elim (α := Fin 1) _ _
  | 2 => rfl
  | 3 => rfl

theorem read_s (c : Dev nD) (r : Fin 2) (j : Fin 3) :
    (sM.access (Rect.unit (s := S2x3x64x512) ![r.val, j.val, 0, 0] S1x1x64x512.size (inbS r j))).read (Elt F) (sF m c)
      = blk m (zup j.succ c) r (cz c) := by
  funext i
  have h0 : (Rect.unit (s := S2x3x64x512) ![r.val, j.val, 0, 0] S1x1x64x512.size (inbS r j)).emb i
      = (ix4 r j (i 2) (i 3) : S2x3x64x512.Idx) := by
    funext a; apply Fin.ext; rw [Rect.emb_apply]
    have h0 : (i 0).val = 0 := Nat.lt_one_iff.mp (i 0).isLt
    have h1 : (i 1).val = 0 := Nat.lt_one_iff.mp (i 1).isLt
    match a with
    | 0 => show r.val + 1 * (i 0).val = r.val; omega
    | 1 => show j.val + 1 * (i 1).val = j.val; omega
    | 2 => show 0 + 1 * (i 2).val = (i 2).val; omega
    | 3 => show 0 + 1 * (i 3).val = (i 3).val; omega
  show sF m c ((Rect.unit (s := S2x3x64x512) ![r.val, j.val, 0, 0] S1x1x64x512.size (inbS r j)).emb i) = _
  rw [h0]
  exact congrArg (blk m (zup j.succ c) r (cz c)) (eq_ix4 i)

theorem read_r (c : Dev nD) (r : Fin 2) (z : Fin 4) :
    (rM.access (Rect.unit (s := S2x4x64x512) ![r.val, z.val, 0, 0] S1x1x64x512.size (inbR r z))).read (Elt F) (rF m c)
      = blk m c r z := by
  funext i
  have h0 : (Rect.unit (s := S2x4x64x512) ![r.val, z.val, 0, 0] S1x1x64x512.size (inbR r z)).emb i
      = (ix4 r z (i 2) (i 3) : S2x4x64x512.Idx) := by
    funext a; apply Fin.ext; rw [Rect.emb_apply]
    have h0 : (i 0).val = 0 := Nat.lt_one_iff.mp (i 0).isLt
    have h1 : (i 1).val = 0 := Nat.lt_one_iff.mp (i 1).isLt
    match a with
    | 0 => show r.val + 1 * (i 0).val = r.val; omega
    | 1 => show z.val + 1 * (i 1).val = z.val; omega
    | 2 => show 0 + 1 * (i 2).val = (i 2).val; omega
    | 3 => show 0 + 1 * (i 3).val = (i 3).val; omega
  show rF m c ((Rect.unit (s := S2x4x64x512) ![r.val, z.val, 0, 0] S1x1x64x512.size (inbR r z)).emb i) = _
  rw [h0]
  exact congrArg (blk m c r z) (eq_ix4 i)

theorem read_o (y : Fin 4) (x r : Fin 2) (z : Fin 4) :
    (oV y x r).view.read (Elt F) (oF m z) = red m (dv x y z) r := by
  funext i
  have hi := (i 0).isLt
  have h0 : (Rect.unit (s := S1024x512) ![row y x r, 0] S64x512.size (inbO y x r)).emb i
      = (ix2 ⟨row y x r + (i 0).val, by
          have := y.isLt; have := x.isLt; have := r.isLt
          have hi : (i 0).val < 64 := (i 0).isLt
          unfold row; omega⟩ (i 1) : S1024x512.Idx) := by
    funext a; apply Fin.ext; rw [Rect.emb_apply]
    match a with
    | 0 => show row y x r + 1 * (i 0).val = row y x r + (i 0).val; omega
    | 1 => show 0 + 1 * (i 1).val = (i 1).val; omega
  show oF m z ((Rect.unit (s := S1024x512) ![row y x r, 0] S64x512.size (inbO y x r)).emb i) = _
  rw [h0]
  have hy := y.isLt; have hx := x.isLt; have hr := r.isLt
  replace hi : (i 0).val < 64 := hi
  have e1 : (⟨(row y x r + (i 0).val) / 128 % 2, Nat.mod_lt _ (by decide)⟩ : Fin 2) = x := by
    apply Fin.ext; show (row y x r + (i 0).val) / 128 % 2 = x.val; unfold row; omega
  have e2 : (⟨(row y x r + (i 0).val) / 256 % 4, Nat.mod_lt _ (by decide)⟩ : Fin 4) = y := by
    apply Fin.ext; show (row y x r + (i 0).val) / 256 % 4 = y.val; unfold row; omega
  have e3 : (⟨(row y x r + (i 0).val) / 64 % 2, Nat.mod_lt _ (by decide)⟩ : Fin 2) = r := by
    apply Fin.ext; show (row y x r + (i 0).val) / 64 % 2 = r.val; unfold row; omega
  have e4 : (⟨(row y x r + (i 0).val) % 64, Nat.mod_lt _ (by decide)⟩ : Fin 64) = i 0 := by
    apply Fin.ext; show (row y x r + (i 0).val) % 64 = (i 0).val; unfold row; omega
  show red m (dv ⟨(row y x r + (i 0).val) / 128 % 2, _⟩ ⟨(row y x r + (i 0).val) / 256 % 4, _⟩ z)
    ⟨(row y x r + (i 0).val) / 64 % 2, _⟩ (ix2 ⟨(row y x r + (i 0).val) % 64, _⟩ (i 1)) = _
  rw [e1, e2, e3, e4]
  exact congrArg (red m (dv x y z) r) (eq_ix2 i)

/-- What `c` puts in its send buffer for the peer `j + 1` further along `z` is that peer's block of what `c` contributes. -/
theorem blk_send (c : Dev nD) (r : Fin 2) (k : Fin 4) : blk m (zup k c) r (cz c) = k0_pay1 (xblk m c r (cz c + k)) := by
  unfold blk; rw [cx_zup, cy_zup, cz_zup, dv_coords]

/-- What `c` puts in its own place of its receive buffer. -/
theorem blk_own (c : Dev nD) (r : Fin 2) : blk m c r (cz c) = k0_pay1 (xblk m c r (cz c)) := by
  unfold blk; rw [dv_coords]

/-- A copy along `z`: the source reads what the target holds. -/
theorem copy_z (c : Dev nD) (r : Fin 2) (j : Fin 3) :
    (sV r j).view.read (Elt F) (sF m c) = (rV r (cz c)).view.read (Elt F) (rF m (zup j.succ c)) := by
  have h := (read_s m c r j).trans (read_r m (zup j.succ c) r (cz c)).symm
  funext i
  exact congrFun h (Shape.reshapeEquiv squeezes_S1x1x64x512_S64x512.numel_eq i)

end Contents

/-! ## The credit of a copy of one piece -/

/-- The credit of a copy of one piece. -/
abbrev N : ℕ := (oV 0 0 0).view.dmaCredit
/-- The credit of the copy of the argument's slice. -/
abbrev NX : ℕ := xM.view.dmaCredit
theorem N_pos : 0 < N := View.dmaCredit_pos _ (by decide)
theorem NX_pos : 0 < NX := View.dmaCredit_pos _ (by decide)

theorem credit_o (o h) : (oAt o h).view.dmaCredit = N := rfl
theorem credit_s (o h) : (sAt o h).view.dmaCredit = N := by rfl
theorem credit_r (o h) : (rAt o h).view.dmaCredit = N := by rfl

end Cert.AllSum

end
-- ==== Proof.Mesh.Cells.lean ====
/-
# The semaphores and the schedule of what they hand over

Every semaphore is used for one round. The entry semaphore takes seven signals, one from each peer, and each signal
hands over the pieces of the signaller's buffers that its receiver will write. Every other semaphore takes one copy's
credit: a send semaphore returns the source, a receive semaphore hands over the landed piece.
-/
module

public import proofs.«01_k».proof.Proof.Mesh.Views
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.AllSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The semaphores -/

/-- The semaphores a device waits on: the entry semaphore, the one of the copy of its own slice, and, for each of the
    three phases, those of its sends and those of its receives. -/
inductive Cell
  | bar
  | stage
  | zs (r : Fin 2) (j : Fin 3)
  | zr (r : Fin 2) (j : Fin 3)
  | xs (r : Fin 2) (k : Fin 4)
  | xr (r : Fin 2) (k : Fin 4)
  | ys (r : Fin 2) (j : Fin 3)
  | yr (r : Fin 2) (j : Fin 3)
  deriving DecidableEq

/-- All of them, in the order of their numbers. -/
def cells : List Cell :=
  [.bar, .stage,
    .zs 0 0, .zs 0 1, .zs 0 2, .zs 1 0, .zs 1 1, .zs 1 2,
    .zr 0 0, .zr 0 1, .zr 0 2, .zr 1 0, .zr 1 1, .zr 1 2,
    .xs 0 0, .xs 0 1, .xs 0 2, .xs 0 3, .xs 1 0, .xs 1 1, .xs 1 2, .xs 1 3,
    .xr 0 0, .xr 0 1, .xr 0 2, .xr 0 3, .xr 1 0, .xr 1 1, .xr 1 2, .xr 1 3,
    .ys 0 0, .ys 0 1, .ys 0 2, .ys 1 0, .ys 1 1, .ys 1 2,
    .yr 0 0, .yr 0 1, .yr 0 2, .yr 1 0, .yr 1 1, .yr 1 2]

theorem cells_nodup : cells.Nodup := by decide +kernel

theorem mem_cells (x : Cell) : x ∈ cells := by
  have h3 : ∀ (r : Fin 2) (j : Fin 3), Cell.zs r j ∈ cells ∧ Cell.zr r j ∈ cells ∧ Cell.ys r j ∈ cells ∧ Cell.yr r j ∈ cells := by
    decide +kernel
  have h4 : ∀ (r : Fin 2) (k : Fin 4), Cell.xs r k ∈ cells ∧ Cell.xr r k ∈ cells := by decide +kernel
  cases x with
  | bar => decide
  | stage => decide
  | zs r j => exact (h3 r j).1
  | zr r j => exact (h3 r j).2.1
  | xs r k => exact (h4 r k).1
  | xr r k => exact (h4 r k).2
  | ys r j => exact (h3 r j).2.2.1
  | yr r j => exact (h3 r j).2.2.2

instance : Fintype Cell := ⟨⟨cells, cells_nodup⟩, mem_cells⟩

/-- The entry semaphore. -/
abbrev barS : Sem sig := (SemArray.scalar (sig.barrier 0 rfl) : Sems sig S_).sem

/-- The semaphore of each name. -/
def csem : Cell → SemLoc sig
  | .bar => .reg barS
  | .stage => .dma cc0_scratch3.sem
  | .zs r j => .dma ⟨2 + 3 * r.val + j.val, by have := r.isLt; have := j.isLt; show _ < 42; omega⟩
  | .zr r j => .dma ⟨8 + 3 * r.val + j.val, by have := r.isLt; have := j.isLt; show _ < 42; omega⟩
  | .xs r k => .dma ⟨14 + 4 * r.val + k.val, by have := r.isLt; have := k.isLt; show _ < 42; omega⟩
  | .xr r k => .dma ⟨22 + 4 * r.val + k.val, by have := r.isLt; have := k.isLt; show _ < 42; omega⟩
  | .ys r j => .dma ⟨30 + 3 * r.val + j.val, by have := r.isLt; have := j.isLt; show _ < 42; omega⟩
  | .yr r j => .dma ⟨36 + 3 * r.val + j.val, by have := r.isLt; have := j.isLt; show _ < 42; omega⟩

theorem csem_inj : Function.Injective csem := by
  have h : ∀ x y : Cell, csem x = csem y → x = y := by decide +kernel
  exact fun x y => h x y

/-- The name of a semaphore, if it has one. -/
def dec (s : SemLoc sig) : Option Cell := Function.partialInv csem s

theorem dec_csem (x : Cell) : dec (csem x) = some x := Function.partialInv_left csem_inj x

/-- Device `c`'s semaphore named `x`. -/
abbrev kcell (p : Dev nD × Cell) : GSem nD τ sig := ((p.1 : Thread nD τ), csem p.2)

theorem kcell_inj : Function.Injective kcell := by
  intro ⟨c, x⟩ ⟨d, y⟩ h
  have h1 : c = d := by injection (congrArg Prod.fst h)
  have h2 : x = y := csem_inj (congrArg Prod.snd h)
  rw [h1, h2]

/-- What one duty of a semaphore amounts to. -/
def amt : Cell → ℕ
  | .bar => 1
  | .stage => NX
  | _ => N

/-- What a semaphore is waited for at. -/
def tot : Cell → ℕ
  | .bar => 7
  | .stage => NX
  | _ => N

theorem amt_pos (x : Cell) : 0 < amt x := by
  cases x <;> first | exact Nat.one_pos | exact NX_pos | exact N_pos

/-- The order of the waits: a device waits on a semaphore only when it owes nothing but later ones. -/
def lvl : Cell → ℕ
  | .bar => 1
  | .zr _ _ => 2
  | .yr _ _ => 3
  | .xr _ _ => 4
  | _ => 0

/-! ## The resources -/

/-- Duties of a semaphore are named by numbers below 7. -/
abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- A piece of a buffer of device `c`, at share `q`, holding the content function `f` there. -/
abbrev pt (c : Dev nD) {sp : Space} {s : Shape} {e : EltTy} (M : Memref sig .tc sp s e) (q : PosShare TreeShare)
    (f : Buf (Elt F) (M.view.loc (c : Thread nD τ))) : sProp 𝕄 :=
  M.view.loc (c : Thread nD τ) ↦[M.view.set]{q} f

/-- A piece of a buffer of device `c`, holding anything. -/
abbrev ptE (c : Dev nD) {sp : Space} {s : Shape} {e : EltTy} (M : Memref sig .tc sp s e) : sProp 𝕄 :=
  iprop(∃ f, pt (F := F) c M fullShare f)

/-- The share of its own piece of the result that a device sends to its peers: three along `y`, then the one along `x`. -/
def quarter : Fin 4 → PosShare TreeShare
  | 0 => fullShare.left.left
  | 1 => fullShare.left.right
  | 2 => fullShare.right.left
  | 3 => fullShare.right.right

section Sched
variable (m : (ℓ : Loc nD τ sig) → Buf (Elt F) ℓ)

/-- What `p` hands `c` along `z`: `c`'s places of `p`'s receive buffer. -/
def zGift (c p : Dev nD) : sProp 𝕄 := bigSep Finset.univ fun r : Fin 2 => ptE p (rV r (cz c))
/-- What `p` hands `c` along `y`: `c`'s slice of `p`'s result. -/
def yGift (c p : Dev nD) : sProp 𝕄 := bigSep Finset.univ fun r : Fin 2 => ptE p (oV (cy c) (cx c) r)
/-- What `p` hands `c` along `x`: the slices at `c`'s `x` of `p`'s result. -/
def xGift (c p : Dev nD) : sProp 𝕄 := bigSep Finset.univ fun i : Fin 2 × Fin 4 => ptE p (oV (cy c - i.2) (cx c) i.1)

instance zGift_storable (c p : Dev nD) : BI.Storable (upEmb : UEmb _ 𝕄) (zGift (F := F) c p) := by unfold zGift; infer_instance
instance yGift_storable (c p : Dev nD) : BI.Storable (upEmb : UEmb _ 𝕄) (yGift (F := F) c p) := by unfold yGift; infer_instance
instance xGift_storable (c p : Dev nD) : BI.Storable (upEmb : UEmb _ 𝕄) (xGift (F := F) c p) := by unfold xGift; infer_instance

/-- What the seven signals of `c`'s entry semaphore hand over. -/
def barPay (c : Dev nD) : Fin 7 → sProp 𝕄
  | 0 => zGift c (zup 3 c)
  | 1 => zGift c (zup 2 c)
  | 2 => zGift c (zup 1 c)
  | 3 => yGift c (yup 3 c)
  | 4 => yGift c (yup 2 c)
  | 5 => yGift c (yup 1 c)
  | 6 => xGift c (xsw c)

/-- What a copy's credit hands over. -/
def copyPay (c : Dev nD) : Cell → sProp 𝕄
  | .bar => iprop(emp)
  | .stage => iprop(pt c xM fullShare (xF m c) ∗ pt c (aV (cy c) (cx c)) fullShare (m ((c : Thread nD τ).loc main_arg0)))
  | .zs r j => pt c (sV r j) fullShare (sF m c)
  | .zr r j => pt c (rV r (cz c - j.succ)) fullShare (rF m c)
  | .xs r k => pt c (oV (cy c - k) (cx c) r) (if k = 0 then quarter 3 else fullShare) (oF m (cz c))
  | .xr r k => pt c (oV (cy c - k) (cx c + 1) r) fullShare (oF m (cz c))
  | .ys r j => pt c (oV (cy c) (cx c) r) (quarter j.castSucc) (oF m (cz c))
  | .yr r j => pt c (oV (cy c - j.succ) (cx c) r) fullShare (oF m (cz c))

/-- What a duty of the semaphore `x` of `c` hands over. -/
def pay (c : Dev nD) (x : Cell) (d : Fin 7) : sProp 𝕄 := if x = .bar then barPay c d else copyPay m c x

/-- The duties of the semaphore `x`. -/
def dut (x : Cell) : Finset (Fin 7) := if x = .bar then Finset.univ else {0}

instance barPay_storable (c : Dev nD) (d : Fin 7) : BI.Storable (upEmb : UEmb _ 𝕄) (barPay (F := F) c d) := by
  unfold barPay; split <;> infer_instance
instance copyPay_storable (c : Dev nD) (x : Cell) : BI.Storable (upEmb : UEmb _ 𝕄) (copyPay m c x) := by
  unfold copyPay; split <;> infer_instance
instance pay_storable (c : Dev nD) (x : Cell) (d : Fin 7) : BI.Storable (upEmb : UEmb _ 𝕄) (pay m c x d) := by
  unfold pay; split <;> infer_instance

/-- The schedule: one round, round 0. -/
def sched : Rounds.Schedule (GSem nD τ sig) (Fin 7) 𝕄 where
  duties g r := if r = 0 ∧ g.1.2 = .tc then (dec g.2).elim ∅ dut else ∅
  unitless _ := False
  amount g _ _ := (dec g.2).elim 1 amt
  payload g _ d := (dec g.2).elim iprop(emp) fun x => pay m g.1.1 x d
  amount_pos g _ _ _ := by
    cases dec g.2 with
    | none => exact Nat.one_pos
    | some x => exact amt_pos x

instance sched_payload_storable (g : GSem nD τ sig) (r : ℕ) (d : Fin 7) :
    BI.Storable (upEmb : UEmb _ 𝕄) ((sched m).payload g r d) := by
  show BI.Storable upEmb ((dec g.2).elim iprop(emp) fun x => pay m g.1.1 x d)
  cases dec g.2 with
  | none => exact (inferInstance : BI.Storable (upEmb : UEmb _ 𝕄) iprop(emp))
  | some x => exact pay_storable m g.1.1 x d

theorem duties_cell (p : Dev nD × Cell) : (sched m).duties (kcell p) 0 = dut p.2 := by
  unfold sched
  dsimp only
  rw [if_pos ⟨rfl, rfl⟩, dec_csem]; rfl
theorem duties_later (g : GSem nD τ sig) : ∀ r, 1 ≤ r → (sched m).duties g r = ∅ :=
  fun r hr => if_neg fun h => by omega
theorem amount_cell (p : Dev nD × Cell) (r d) : (sched m).amount (kcell p) r d = amt p.2 := by
  show (dec (csem p.2)).elim 1 amt = _
  rw [dec_csem]; rfl
theorem payload_cell (p : Dev nD × Cell) (r d) : (sched m).payload (kcell p) r d = pay m p.1 p.2 d := by
  show ((dec (csem p.2)).elim iprop(emp) fun x => pay m p.1 x d) = _
  rw [dec_csem]; rfl
theorem expect_cell (p : Dev nD × Cell) : (sched m).expect (kcell p) 0 = tot p.2 := by
  unfold Schedule.expect Schedule.amountOf
  rw [duties_cell, Finset.sum_congr rfl fun d _ => amount_cell m p 0 d, Finset.sum_const, smul_eq_mul]
  obtain ⟨c, x⟩ := p
  cases x <;> (unfold dut amt tot; simp)
theorem pay_bar (c : Dev nD) (d) : pay m c .bar d = barPay c d := if_pos rfl
theorem pay_copy (c : Dev nD) {x : Cell} (hx : x ≠ .bar) (d) : pay m c x d = copyPay m c x := if_neg hx
theorem mem_dut (x : Cell) (d : Fin 7) (h : x = .bar ∨ d = 0) : d ∈ dut x := by
  unfold dut
  split
  · exact Finset.mem_univ _
  · exact Finset.mem_singleton.mpr (h.resolve_left ‹_›)

end Sched

end Cert.AllSum

end
-- ==== Proof.Mesh.Steps.lean ====
/-
# One rule per kind of effect

A device's dues are a list, in the order in which it pays them: who is paid, at which semaphore, under which duty. Each
signal or copy pays the head of the list. The rules here are the ones the body's proof applies: a copy, a signal, a wait.
-/
module

public import proofs.«01_k».proof.Proof.Mesh.Cells

@[expose] public section

noncomputable section

namespace Cert.AllSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The dues -/

/-- One due: the peer that is paid, at which of its semaphores, under which duty. -/
abbrev Talk : Type := (Dev nD ≃ Dev nD) × Cell × Fin 7

/-- What `c` owes, by semaphore. -/
def due (c : Dev nD) : List Talk → CellTallies nD τ sig Unit
  | [] => 0
  | p :: l => due c l + tallyAt (kcell (p.1 c, p.2.1)) () (amt p.2.1)

/-- The tokens `c` pays with. -/
def toks (c : Dev nD) : List Talk → sProp 𝕄
  | [] => iprop(emp)
  | p :: l => iprop(dutyTok ER (kcell (p.1 c, p.2.1)) 0 p.2.2 ∗ toks c l)

/-- `c` owes the dues `l` and holds the tokens to pay them. -/
def Due (c : Dev nD) (l : List Talk) : sProp 𝕄 :=
  iprop((∃ W, owes (c : Thread nD τ) (due c l) W) ∗ toks c l)

theorem due_cons (c : Dev nD) (p : Talk) (l) : due c (p :: l) = due c l + tallyAt (kcell (p.1 c, p.2.1)) () (amt p.2.1) := rfl
theorem due_split (c : Dev nD) (p : Talk) (l) : Due (F := F) c (p :: l)
    = iprop((∃ W, owes (c : Thread nD τ) (due c (p :: l)) W) ∗ dutyTok ER (kcell (p.1 c, p.2.1)) 0 p.2.2 ∗ toks c l) := rfl

/-- A copy along `z` of half `r`, to the peer `j + 1` further along. -/
abbrev tZ (r : Fin 2) (j : Fin 3) : Talk := (zup j.succ, .zr r j, 0)
/-- A copy along `y` of half `r`, to the peer `j + 1` further along. -/
abbrev tY (r : Fin 2) (j : Fin 3) : Talk := (yup j.succ, .yr r j, 0)
/-- A copy along `x` of half `r` of the slice that came from `k` back along `y`. -/
abbrev tX (r : Fin 2) (k : Fin 4) : Talk := (xsw, .xr r k, 0)
/-- An entry signal. -/
abbrev tB (e : Dev nD ≃ Dev nD) (d : Fin 7) : Talk := (e, .bar, d)

/-! ## The levels -/

def L (g : GSem nD τ sig) : Finset Unit := if g.1.2 = .tc then {()} else ∅
def lv (g : GSem nD τ sig) (_ : Unit) : ℕ := (dec g.2).elim 0 lvl

theorem L_of_ne (g : GSem nD τ sig) (h : g.1.2 ≠ .tc) : L g = ∅ := if_neg h
theorem L_tc (c : Dev nD) (sm : SemLoc sig) : L ((c : Thread nD τ), sm) = {()} := if_pos rfl
theorem lv_cell (p : Dev nD × Cell) (u : Unit) : lv (kcell p) u = lvl p.2 := by
  show (dec (csem p.2)).elim 0 lvl = _
  rw [dec_csem]; rfl
theorem lv_csem (c : Dev nD) (x : Cell) : lv ((c : Thread nD τ), csem x) () = lvl x := lv_cell (c, x) ()

theorem due_pos {c : Dev nD} {l : List Talk} {g : GSem nD τ sig} {u : Unit} (h : 0 < due c l g u) :
    ∃ p ∈ l, g = kcell (p.1 c, p.2.1) := by
  induction l with
  | nil => exact absurd h (Nat.lt_irrefl 0)
  | cons p l ih =>
    unfold due at h
    rw [Pi.add_apply, Finsupp.add_apply, tallyAt_apply] at h
    by_cases hp : g = kcell (p.1 c, p.2.1) ∧ u = ()
    · exact ⟨p, List.mem_cons_self, hp.1⟩
    · rw [if_neg hp, Nat.add_zero] at h
      obtain ⟨q, hq, e⟩ := ih h
      exact ⟨q, List.mem_cons_of_mem _ hq, e⟩

/-- A wait below everything still owed. -/
theorem mayWait (c : Dev nD) (s : SemLoc sig) (b : ℕ) (hs : lv ((c : Thread nD τ), s) () ≤ b) (l : List Talk)
    (hl : ∀ p ∈ l, b < lvl p.2.1) :
    (levAts L lv : sProp 𝕄) ⊢ MayWait (c : Thread nD τ) s () (due c l) :=
  MayOwe.of_cut (L := L) (lev := lv) b
    (fun p hp => by rw [Finset.mem_singleton.mp hp, L_tc]; exact Finset.mem_singleton_self _)
    (fun g u hg => by obtain ⟨p, hp, rfl⟩ := due_pos hg; rw [L_tc]; exact Finset.mem_singleton_self _)
    (fun p hp => by rw [Finset.mem_singleton.mp hp]; exact hs)
    (fun g u hg => by obtain ⟨p, hp, rfl⟩ := due_pos hg; rw [lv_cell]; exact hl p hp)

/-! ## What every device knows -/

abbrev 𝒱₀ : Variants := Variants.none

/-- A program of device `c`, at its postcondition. -/
abbrev Wp (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Know
variable (m : (ℓ : Loc nD τ sig) → Buf (Elt F) ℓ) (K : Dev nD × Cell → ℕ)

/-- The invariant of every semaphore, that each is at its round, and the levels. -/
def Know : sProp 𝕄 :=
  iprop(bigSep Finset.univ (fun p : Dev nD × Cell => iprop(cellInv ER (sched m) (K p) (kcell p) ∗ reached ER (kcell p) 0)) ∗ levAts L lv)

instance know_persistent : BI.Persistent (Know m K) := by unfold Know; infer_instance

theorem know_at (p : Dev nD × Cell) : Know m K ⊢ iprop(cellInv ER (sched m) (K p) (kcell p) ∗ reached ER (kcell p) 0) := by
  unfold Know
  exact (sep_mono_left (bigSep_elim (Finset.mem_univ p))).trans (by iintro ⟨H, -⟩; iexact H)
theorem know_wait (c : Dev nD) (x : Cell) (l : List Talk) (hl : ∀ p ∈ l, lvl x < lvl p.2.1) :
    Know m K ⊢ MayWait (c : Thread nD τ) (csem x) () (due c l) := by
  unfold Know
  iintro ⟨-, H⟩
  iapply (mayWait (F := F) c (csem x) (lvl x) (lv_csem c x).le l hl)
  iexact H

/-- A device at the start of its semaphore `x`'s round. -/
abbrev At (c : Dev nD) (x : Cell) : sProp 𝕄 := atPos ER (kcell (c, x)) 0 ∅ 0
/-- A semaphore of `c`'s own copies, before the copy. -/
def Free (c : Dev nD) (x : Cell) : sProp 𝕄 := iprop(dutyTok ER (kcell (c, x)) 0 0 ∗ At c x)
/-- A semaphore to be waited on: its credit, and where it stands. -/
def Wait (c : Dev nD) (x : Cell) : sProp 𝕄 := iprop(cred (tallyAt (kcell (c, x)) () (tot x)) ∗ At c x)
/-- A semaphore that is done with. -/
abbrev Done (c : Dev nD) (x : Cell) : sProp 𝕄 := semVal (kcell (c, x)) 0

variable {m K}

/-- A piece written with what another function reads there holds that function. -/
theorem pt_write {n : Dev nD} {sp : Space} {s : Shape} {e : EltTy} (M : Memref sig .tc sp s e) (q : PosShare TreeShare)
    (f g : Buf (Elt F) (M.view.loc (n : Thread nD τ))) (w : s.Idx → Elt F e) (h : w = M.view.read (Elt F) g) :
    pt n M q (M.view.write (Elt F) f w Finset.univ) = pt n M q g := by
  subst h
  refine pointsTo_congr fun i hi => ?_
  obtain ⟨x, -, rfl⟩ := Finset.mem_map.mp hi
  rw [View.write_emb_of_mem _ _ (Finset.mem_univ x), View.read_apply, cast_cast, cast_eq]

/-- A copy of one piece to a peer: it pays the head of the dues. -/
theorem step_send {c n : Dev nD} (e : Dev nD ≃ Dev nD) (xs xr : Cell) {l : List Talk}
    {sS sR : DmaSem sig} (src dst : Memref sig .tc .vmem S64x512 .bf16) {src' dst' : Memref sig .tc .vmem S64x512 .bf16}
    (hsrc : src' = src) (hdst : dst' = dst) (hn : n = e c)
    (hS : csem xs = .dma sS) (hR : csem xr = .dma sR) (aS : amt xs = N) (aR : amt xr = N) (bS : xs ≠ .bar) (bR : xr ≠ .bar)
    (aD : dst.view.dmaCredit = N)
    (q : PosShare TreeShare) (f : Buf (Elt F) (src.view.loc (c : Thread nD τ))) (g : Buf (Elt F) (dst.view.loc ((e c : Dev nD) : Thread nD τ)))
    (hread : src.view.read (Elt F) f = dst.view.read (Elt F) g)
    (pS : copyPay m c xs = pt c src q f) (pR : copyPay m (e c) xr = pt (e c) dst fullShare g)
    {hsc : dst'.view.ref.isScScratch = false} {h1 : src'.view.WordExact} {h2 : dst'.view.WordExact}
    {h3 : DmaTarget.Typed .vmem (.dma sR) (.remote (Dev.tc n : Thread nD τ) dst' (.dma sS) hsc)}
    {α : Type} {Q : α → sProp 𝕄} {k : PUnit → Prog (TpuEff nD τ sig (Elt F) Λ₀ .tc) α} :
    iprop(Know m K ∗ Free c xs ∗ pt c src q f ∗ ptE (e c) dst ∗ Due c ((e, xr, 0) :: l))
      ⊢ iprop((Wait c xs ∗ Due c l -∗ Wp c (k ⟨⟩) Q)
          -∗ Wp c (.op (.enqueueDma src' (.remote (Dev.tc n : Thread nD τ) dst' (.dma sS) hsc) (.dma sR) h1 h2 h3) k) Q) := by
  subst hsrc hdst hn
  have tS : tot xs = N := by cases xs <;> first | exact absurd rfl bS | exact aS
  rw [due_split]
  unfold Free Due Wait
  rw [tS]
  iintro ⟨#HK, ⟨Ht, Hat⟩, Hsrc, ⟨%fd, Hdst⟩, ⟨%W, HO⟩, Ht', Hts⟩ Hk
  ihave ⟨#Hi, #Hr⟩ := (know_at m K (c, xs)) $$ HK
  ihave ⟨#Hi', #Hr'⟩ := (know_at m K (e c, xr)) $$ HK
  have kS : kcell (c, xs) = ((c : Thread nD τ), SemLoc.dma sS) := congrArg (Prod.mk _) hS
  have kR : kcell (e c, xr) = (((e c : Dev nD) : Thread nD τ), SemLoc.dma sR) := congrArg (Prod.mk _) hR
  iapply (Rounds.wp_send_pointsTo 𝒱₀ ER (sched m) (c : Thread nD τ) none (defs := defs₀ (F := F))
    (c' := ((e c : Dev nD) : Thread nD τ)) (src := src') (dst := dst') (sS := .dma sS) (sem := .dma sR)
    (κ₁ := K (c, xs)) (κ₂ := K (e c, xr)) (r₁ := 0) (r₂ := 0) (d₁ := 0) (d₂ := 0) (fs := f) (fd := fd) (q := q)
    (by rw [← kS, duties_cell]; exact mem_dut _ _ (.inr rfl)) (by rw [← kR, duties_cell]; exact mem_dut _ _ (.inr rfl))
    () () N aD (by rw [← kS, amount_cell]; exact aS) (by rw [← kR, amount_cell]; exact aR) (due c l)
    (O₀ := due c ((e, xr, 0) :: l)) (by rw [due_cons, ← kR, aR]) (W := W)
    (by rw [← kS, payload_cell, pay_copy m c bS, pS])
    (by rw [← kR, payload_cell, pay_copy m (e c) bR, pR]; exact Entails.of_eq (pt_write _ _ _ _ _ hread))) $$ [Hsrc Hdst HO Ht Ht']
  · rw [← kS, ← kR]
    isplitr; · iexact Hi
    isplitr; · iexact Hi'
    isplitl [Hsrc]; · iexact Hsrc
    isplitl [Hdst]; · iexact Hdst
    isplitl [HO]; · iexact HO
    isplitl [Ht]; · iexact Ht
    isplitr; · iexact Hr
    isplitl [Ht']; · iexact Ht'
    iexact Hr'
  iintro ⟨Hc, HO⟩
  iapply Hk
  rw [kS]
  isplitl [Hc Hat]
  · isplitl [Hc]; · iexact Hc
    iexact Hat
  isplitl [HO]; · iexists W; iexact HO
  iexact Hts

/-- A signal to a peer's entry semaphore: it pays the head of the dues. -/
theorem step_signal {c n : Dev nD} (e : Dev nD ≃ Dev nD) (d : Fin 7) {l : List Talk} (hn : n = e c) {s : Sem sig} (hs : s = barS)
    {k' : ℕ} (hk' : k' = 1)
    {α : Type} {Q : α → sProp 𝕄} {k : PUnit → Prog (TpuEff nD τ sig (Elt F) Λ₀ .tc) α} :
    iprop(Know m K ∗ barPay (e c) d ∗ Due c ((e, .bar, d) :: l))
      ⊢ iprop((Due c l -∗ Wp c (k ⟨⟩) Q) -∗ Wp c (.op (.semSignal (Dev.tc n : Thread nD τ) s k') k) Q) := by
  subst hn hs hk'
  rw [due_split]
  unfold Due
  iintro ⟨#HK, Hp, ⟨%W, HO⟩, Ht, Hts⟩ Hk
  ihave ⟨#Hi, #Hr⟩ := (know_at m K (e c, .bar)) $$ HK
  iapply (Rounds.wp_signal 𝒱₀ ER (sched m) (c : Thread nD τ) none (dst := ((e c : Dev nD) : Thread nD τ)) (κ := K (e c, .bar))
      (d := d) (Eq.mpr (congrArg (d ∈ ·) (duties_cell m (e c, .bar))) (mem_dut _ _ (.inl rfl))) (amount_cell m (e c, .bar) 0 d) () (due c l) rfl)
    $$ [HO Ht Hp]
  · isplitr; · iexact Hi
    isplitl [HO]; · iexact HO
    isplitl [Ht]; · iexact Ht
    isplitl [Hp]
    · rw [show (sched m).payload (((e c : Dev nD) : Thread nD τ), SemLoc.reg barS) 0 d = barPay (e c) d from
        (payload_cell m (e c, .bar) 0 d).trans (pay_bar m (e c) d)]
      iexact Hp
    iexact Hr
  iintro HO
  iapply Hk
  isplitl [HO]; · iexists W; iexact HO
  iexact Hts

/-- A wait for all of a semaphore's round, which closes it: what its duties hand over. -/
theorem step_wait {c : Dev nD} (x : Cell) {l : List Talk} {s : SemLoc sig} (hx : csem x = s)
    (hl : ∀ p ∈ l, lvl x < lvl p.2.1) {k' : ℕ} (hk' : k' = tot x)
    {w : TpuEff nD τ sig (Elt F) Λ₀ .tc PUnit}
    (hw : ∀ R : PUnit → sProp 𝕄, wpE (defs₀ (F := F)) 𝒱₀ (c : Thread nD τ) none Set.univ w R = waitSpec (c : Thread nD τ) Set.univ s k' R)
    {α : Type} {Q : α → sProp 𝕄} {k : PUnit → Prog (TpuEff nD τ sig (Elt F) Λ₀ .tc) α} :
    iprop(Know m K ∗ Wait c x ∗ Due c l)
      ⊢ iprop((bigSep (dut x) (fun d => pay m c x d) ∗ Done c x ∗ Due c l -∗ Wp c (k ⟨⟩) Q) -∗ Wp c (.op w k) Q) := by
  subst hx hk'
  unfold Wait Due
  iintro ⟨#HK, ⟨Hc, Hat⟩, ⟨%W, HO⟩, Hts⟩ Hk
  ihave ⟨#Hi, #Hr⟩ := (know_at m K (c, x)) $$ HK
  iapply (Rounds.wp_wait_rest_token 𝒱₀ ER (sched m) (c : Thread nD τ) none (κ := K (c, x)) hw (Set.mem_univ _) ()
      (O := due c l) (W := W) (R := 0) (m := 0) (T := ∅) (by rw [Nat.zero_add]; exact (expect_cell m (c, x)).symm)) $$ [Hc HO Hat]
  · isplitr; · iexact Hi
    isplitl [Hc]; · iexact Hc
    isplitl [HO]; · iexact HO
    isplitr
    · iapply (know_wait m K c x l hl); iexact HK
    iexact Hat
  iintro ⟨HO, Hat, -, Hp⟩
  imod (Rounds.cell_close ER (sched m) (Set.mem_univ (K (c, x))) (fun h => h) (R := 0 + 1) (duties_later m (kcell (c, x)))) $$ [Hat] with Hz
  · isplitr; · iexact Hi
    iexact Hat
  iapply Hk
  isplitl [Hp]
  · rw [Finset.sdiff_empty, duties_cell m (c, x)]
    iapply (Entails.of_eq (bigSep_congr fun d _ => payload_cell m (c, x) 0 d)) $$ Hp
  isplitl [Hz]; · iexact Hz
  isplitl [HO]; · iexists _; iexact HO
  iexact Hts

/-- A wait for one copy's credit. -/
theorem step_recv {c : Dev nD} (x : Cell) {l : List Talk} {s : DmaSem sig} (hx : csem x = .dma s) (bx : x ≠ .bar)
    (hl : ∀ p ∈ l, lvl x < lvl p.2.1) {sp sp' : Space} {sh : Shape} {e : EltTy} {src : Memref sig .tc sp sh e} {dst : Memref sig .tc sp' sh e}
    (hk' : dst.view.dmaCredit = tot x) {h1 : src.view.WordExact} {h2 : dst.view.WordExact}
    {α : Type} {Q : α → sProp 𝕄} {k : PUnit → Prog (TpuEff nD τ sig (Elt F) Λ₀ .tc) α} :
    iprop(Know m K ∗ Wait c x ∗ Due c l)
      ⊢ iprop((copyPay m c x ∗ Done c x ∗ Due c l -∗ Wp c (k ⟨⟩) Q) -∗ Wp c (.op (.waitDma2 s src dst h1 h2) k) Q) := by
  have h := step_wait (m := m) (K := K) (c := c) x (l := l) hx hl hk' (wpE_waitDma2_eq 𝒱₀ (c : Thread nD τ) none Set.univ) (Q := Q) (k := k)
    (w := .waitDma2 s src dst h1 h2)
  have hd : bigSep (dut x) (fun d => pay m c x d) = copyPay m c x := by
    unfold dut; rw [if_neg bx, bigSep_singleton, pay_copy m c bx]
  rw [hd] at h
  exact h

/-- The copy of the device's slice of its argument. -/
theorem step_stage {c : Dev nD} {src' : Memref sig .tc .hbm S128x2048 .f32} (hsrc : src' = aV (cy c) (cx c)) {sm : DmaSem sig} (hS : csem .stage = .dma sm)
    {h1 : src'.view.WordExact} {h2 : xM.view.WordExact} {h3 : DmaTarget.Typed (nD := nD) (τ := τ) (p := .tc) .hbm (.dma sm) (.here xM)}
    {α : Type} {Q : α → sProp 𝕄} {k : PUnit → Prog (TpuEff nD τ sig (Elt F) Λ₀ .tc) α} :
    iprop(Know m K ∗ Free c .stage ∗ pt c (aV (cy c) (cx c)) fullShare (m ((c : Thread nD τ).loc main_arg0)) ∗ ptE c xM)
      ⊢ iprop((Wait c .stage -∗ Wp c (k ⟨⟩) Q) -∗ Wp c (.op (.enqueueDma src' (.here xM) (.dma sm) h1 h2 h3) k) Q) := by
  subst hsrc
  have kS : kcell (c, .stage) = ((c : Thread nD τ), SemLoc.dma sm) := congrArg (Prod.mk _) hS
  unfold Free Wait
  iintro ⟨#HK, ⟨Ht, Hat⟩, Hsrc, ⟨%fd, Hdst⟩⟩ Hk
  ihave ⟨#Hi, #Hr⟩ := (know_at m K (c, .stage)) $$ HK
  iapply (Rounds.wp_copy_pointsTo 𝒱₀ ER (sched m) (c : Thread nD τ) none (defs := defs₀ (F := F))
    (src := aV (cy c) (cx c)) (dst := xM) (sem := .dma sm) (κ := K (c, .stage)) (r := 0) (d := 0)
    (fs := m ((c : Thread nD τ).loc main_arg0)) (fd := fd) (q := fullShare)
    (by rw [← kS, duties_cell]; exact mem_dut _ _ (.inr rfl)) () NX rfl (by rw [← kS, amount_cell]; rfl)
    (by
      rw [← kS, payload_cell, pay_copy m c (x := .stage) (fun h => nomatch h)]
      exact sep_mono_left (Entails.of_eq (pt_write xM fullShare fd (xF m c) _ rfl)))) $$ [Hsrc Hdst Ht]
  · rw [← kS]
    isplitr; · iexact Hi
    isplitl [Hsrc]; · iexact Hsrc
    isplitl [Hdst]; · iexact Hdst
    isplitl [Ht]; · iexact Ht
    iexact Hr
  iintro Hc
  iapply Hk
  rw [← kS]
  isplitl [Hc]; · iexact Hc
  iexact Hat

end Know

end Cert.AllSum

end
-- ==== Proof.Mesh.Access.lean ====
/-
# The kernel's accesses, piece by piece

A load or store of one piece needs only that piece; a copy to a peer needs the piece of the peer that it writes. Each rule
here is stated at the offset the kernel computes, with what that offset is.
-/
module

public import proofs.«01_k».proof.Proof.Mesh.Steps

@[expose] public section

noncomputable section

namespace Cert.AllSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : Dev nD × Cell → ℕ}
variable {c : Dev nD} {α : Type}

/-! ## Loads and stores -/

theorem pt_o_congr {n : Dev nD} {y y' : Fin 4} {x x' r : Fin 2} (hy : y = y') (hx : x = x') (q : PosShare TreeShare)
    (f : (cc0_stg0_0 : Ref sig .tc).ty.Contents (Elt F)) : (pt n (oV y x r) q f : sProp 𝕄) = pt n (oV y' x' r) q f := by
  subst hy hx; rfl
theorem pt_r_congr {n : Dev nD} {r : Fin 2} {z z' : Fin 4} (hz : z = z') (q : PosShare TreeShare)
    (f : (cc0_scratch2 : Ref sig .tc).ty.Contents (Elt F)) : (pt n (rV r z) q f : sProp 𝕄) = pt n (rV r z') q f := by
  subst hz; rfl

/-- A squeezed piece is the piece. -/
theorem pt_squeeze {n : Dev nD} {s s' : Shape} {e : EltTy} (P : Memref sig .tc .vmem s e) (hs : s.Squeezes s') (q : PosShare TreeShare)
    (f : Buf (Elt F) (P.view.loc (n : Thread nD τ))) : (pt n (P.squeeze s' hs) q f : sProp 𝕄) = pt n P q f :=
  congrArg (fun S => (P.view.loc (n : Thread nD τ) ↦[S]{q} f : sProp 𝕄)) (View.set_reshape _ _)

/-- A load of a piece. -/
theorem load_piece {s : Shape} {e : EltTy} (M : Memref sig .tc .vmem s e) (R : Rect s) (hR : ∀ a, R.stride a = 1) (q : PosShare TreeShare)
    (f : Buf (Elt F) (M.view.loc (c : Thread nD τ))) {hl : M.view.LoadsAt R.toLoadRect}
    {Q : α → sProp 𝕄} {k : (R.shape.Idx → Elt F e) → Prog (TpuEff nD τ sig (Elt F) Λ₀ .tc) α} :
    (pt c (M.slice R hR) q f : sProp 𝕄) ⊢ iprop((pt c (M.slice R hR) q f -∗ Wp c (k ((M.access R).read (Elt F) f)) Q)
      -∗ Wp c (.op (.load M R.toLoadRect hl) k) Q) :=
  by
  iintro H
  iapply (wp_load_rect 𝒱₀ (c : Thread nD τ) none Set.univ (m := M) (r := R) Finset.Subset.rfl) $$ H

/-- A load of a piece of a buffer, all of which is at hand. -/
theorem load_whole {s : Shape} {e : EltTy} (M : Memref sig .tc .vmem s e) (R : Rect s) (q : PosShare TreeShare)
    (f : Buf (Elt F) (M.view.loc (c : Thread nD τ))) {hl : M.view.LoadsAt R.toLoadRect}
    {Q : α → sProp 𝕄} {k : (R.shape.Idx → Elt F e) → Prog (TpuEff nD τ sig (Elt F) Λ₀ .tc) α} :
    (pt c M q f : sProp 𝕄) ⊢ iprop((pt c M q f -∗ Wp c (k ((M.access R).read (Elt F) f)) Q)
      -∗ Wp c (.op (.load M R.toLoadRect hl) k) Q) :=
  by
  iintro H
  iapply (wp_load_rect 𝒱₀ (c : Thread nD τ) none Set.univ (m := M) (r := R) (View.set_slice_subset M.view R)) $$ H

/-- A store of a piece, after which it holds a function that reads so there. -/
theorem store_piece {s : Shape} {e : EltTy} (M : Memref sig .tc .vmem s e) (R : Rect s) (hR : ∀ a, R.stride a = 1)
    (f g : Buf (Elt F) (M.view.loc (c : Thread nD τ))) {w : R.shape.Idx → Elt F e} (hw : w = (M.slice R hR).view.read (Elt F) g) {hx hm}
    {Q : α → sProp 𝕄} {k : PUnit → Prog (TpuEff nD τ sig (Elt F) Λ₀ .tc) α} :
    (pt c (M.slice R hR) fullShare f : sProp 𝕄) ⊢ iprop((pt c (M.slice R hR) fullShare g -∗ Wp c (k ⟨⟩) Q)
      -∗ Wp c (.op (.store M R w Finset.univ hx hm) k) Q) := by
  rw [← pt_write (M.slice R hR) fullShare f g w hw]
  iintro H
  iapply (wp_store 𝒱₀ (c : Thread nD τ) none Set.univ (m := M) (r := R) (Mk := Finset.univ) (S := (M.slice R hR).view.set) (f := f) Finset.Subset.rfl) $$ H

/-- A load of a piece that holds anything. -/
theorem load_any {s : Shape} {e : EltTy} (M : Memref sig .tc .vmem s e) (R : Rect s) (hR : ∀ a, R.stride a = 1)
    {hl : M.view.LoadsAt R.toLoadRect} {Q : α → sProp 𝕄} {k : (R.shape.Idx → Elt F e) → Prog (TpuEff nD τ sig (Elt F) Λ₀ .tc) α} :
    ptE c (M.slice R hR) ⊢ iprop((∀ v, ptE c (M.slice R hR) -∗ Wp c (k v) Q) -∗ Wp c (.op (.load M R.toLoadRect hl) k) Q) := by
  iintro ⟨%f, Hf⟩ Hk
  iapply (load_piece M R hR fullShare f) $$ Hf
  iintro Hf
  iapply Hk
  iexists f; iexact Hf

theorem ptE_squeeze {n : Dev nD} {s s' : Shape} {e : EltTy} (P : Memref sig .tc .vmem s e) (hs : s.Squeezes s') :
    (ptE n (P.squeeze s' hs) : sProp 𝕄) = ptE n P := by
  unfold ptE
  exact congrArg _ (funext fun f => pt_squeeze P hs fullShare f)

theorem load_x {o : Fin 2 → ℕ} (r : Fin 2) (b : Fin 4) (ho : o = ![64 * r.val, 512 * b.val])
    {h : ∀ a, o a + S64x512.size a ≤ S128x2048.size a} {hl} {Q : α → sProp 𝕄} {k : Vec F S64x512 .f32 → Prog (TpuEff nD τ sig (Elt F) Λ₀ .tc) α} :
    (pt c xM fullShare (xF m c) : sProp 𝕄) ⊢ iprop((pt c xM fullShare (xF m c) -∗ Wp c (k (xblk m c r b)) Q)
      -∗ Wp c (.op (.load xM (Rect.unit (s := S128x2048) o S64x512.size h).toLoadRect hl) k) Q) := by
  subst ho
  unfold xblk
  exact load_whole xM _ fullShare (xF m c)

theorem load_s {o : Fin 4 → ℕ} (r : Fin 2) (j : Fin 3) (ho : o = ![r.val, j.val, 0, 0])
    {h : ∀ a, o a + S1x1x64x512.size a ≤ S2x3x64x512.size a} {hl} {Q : α → sProp 𝕄} {k : Vec F S1x1x64x512 .bf16 → Prog (TpuEff nD τ sig (Elt F) Λ₀ .tc) α} :
    ptE c (sV r j) ⊢ iprop((∀ v, ptE c (sV r j) -∗ Wp c (k v) Q)
      -∗ Wp c (.op (.load sM (Rect.unit (s := S2x3x64x512) o S1x1x64x512.size h).toLoadRect hl) k) Q) := by
  subst ho
  rw [ptE_squeeze _ squeezes_S1x1x64x512_S64x512]
  exact load_any sM _ (fun _ => rfl)

theorem store_s {o : Fin 4 → ℕ} (r : Fin 2) (j : Fin 3) (ho : o = ![r.val, j.val, 0, 0]) {w : Vec F S1x1x64x512 .bf16}
    (hw : w = k0_pay1 (xblk m c r (cz c + j.succ)))
    {h : ∀ a, o a + S1x1x64x512.size a ≤ S2x3x64x512.size a} {hx hm} {Q : α → sProp 𝕄} {k : PUnit → Prog (TpuEff nD τ sig (Elt F) Λ₀ .tc) α} :
    ptE c (sV r j) ⊢ iprop((pt c (sV r j) fullShare (sF m c) -∗ Wp c (k ⟨⟩) Q)
      -∗ Wp c (.op (.store sM (Rect.unit (s := S2x3x64x512) o S1x1x64x512.size h) w Finset.univ hx hm) k) Q) := by
  subst ho
  rw [ptE_squeeze _ squeezes_S1x1x64x512_S64x512, pt_squeeze _ squeezes_S1x1x64x512_S64x512]
  iintro ⟨%f, Hf⟩
  iapply (store_piece sM _ (fun _ => rfl) f (sF m c) (hw.trans ((read_s m c r j).trans (blk_send m c r j.succ)).symm)) $$ Hf

theorem load_r {o : Fin 4 → ℕ} (r : Fin 2) (z : Fin 4) (ho : o = ![r.val, z.val, 0, 0])
    {h : ∀ a, o a + S1x1x64x512.size a ≤ S2x4x64x512.size a} {hl} {Q : α → sProp 𝕄} {k : Vec F S1x1x64x512 .bf16 → Prog (TpuEff nD τ sig (Elt F) Λ₀ .tc) α} :
    (pt c (rV r z) fullShare (rF m c) : sProp 𝕄) ⊢ iprop((pt c (rV r z) fullShare (rF m c) -∗ Wp c (k (blk m c r z)) Q)
      -∗ Wp c (.op (.load rM (Rect.unit (s := S2x4x64x512) o S1x1x64x512.size h).toLoadRect hl) k) Q) := by
  subst ho
  rw [pt_squeeze _ squeezes_S1x1x64x512_S64x512, ← read_r m c r z]
  exact load_piece rM _ (fun _ => rfl) _ _

theorem load_r_any {o : Fin 4 → ℕ} (r : Fin 2) (z : Fin 4) (ho : o = ![r.val, z.val, 0, 0])
    {h : ∀ a, o a + S1x1x64x512.size a ≤ S2x4x64x512.size a} {hl} {Q : α → sProp 𝕄} {k : Vec F S1x1x64x512 .bf16 → Prog (TpuEff nD τ sig (Elt F) Λ₀ .tc) α} :
    ptE c (rV r z) ⊢ iprop((∀ v, ptE c (rV r z) -∗ Wp c (k v) Q)
      -∗ Wp c (.op (.load rM (Rect.unit (s := S2x4x64x512) o S1x1x64x512.size h).toLoadRect hl) k) Q) := by
  subst ho
  rw [ptE_squeeze _ squeezes_S1x1x64x512_S64x512]
  exact load_any rM _ (fun _ => rfl)

theorem store_r {o : Fin 4 → ℕ} (r : Fin 2) (ho : o = ![r.val, (cz c).val, 0, 0]) {w : Vec F S1x1x64x512 .bf16}
    (hw : w = k0_pay1 (xblk m c r (cz c)))
    {h : ∀ a, o a + S1x1x64x512.size a ≤ S2x4x64x512.size a} {hx hm} {Q : α → sProp 𝕄} {k : PUnit → Prog (TpuEff nD τ sig (Elt F) Λ₀ .tc) α} :
    ptE c (rV r (cz c)) ⊢ iprop((pt c (rV r (cz c)) fullShare (rF m c) -∗ Wp c (k ⟨⟩) Q)
      -∗ Wp c (.op (.store rM (Rect.unit (s := S2x4x64x512) o S1x1x64x512.size h) w Finset.univ hx hm) k) Q) := by
  subst ho
  rw [ptE_squeeze _ squeezes_S1x1x64x512_S64x512, pt_squeeze _ squeezes_S1x1x64x512_S64x512]
  iintro ⟨%f, Hf⟩
  iapply (store_piece rM _ (fun _ => rfl) f (rF m c) (hw.trans ((read_r m c r (cz c)).trans (blk_own m c r)).symm)) $$ Hf

theorem load_o {o : Fin 2 → ℕ} (y : Fin 4) (x r : Fin 2) (ho : o = ![row y x r, 0])
    {h : ∀ a, o a + S64x512.size a ≤ S1024x512.size a} {hl} {Q : α → sProp 𝕄} {k : Vec F S64x512 .bf16 → Prog (TpuEff nD τ sig (Elt F) Λ₀ .tc) α} :
    ptE c (oV y x r) ⊢ iprop((∀ v, ptE c (oV y x r) -∗ Wp c (k v) Q)
      -∗ Wp c (.op (.load oM (Rect.unit (s := S1024x512) o S64x512.size h).toLoadRect hl) k) Q) := by
  subst ho
  exact load_any oM _ (fun _ => rfl)

theorem store_o {o : Fin 2 → ℕ} (r : Fin 2) (ho : o = ![row (cy c) (cx c) r, 0]) {w : Vec F S64x512 .bf16} (hw : w = red m c r)
    {h : ∀ a, o a + S64x512.size a ≤ S1024x512.size a} {hx hm} {Q : α → sProp 𝕄} {k : PUnit → Prog (TpuEff nD τ sig (Elt F) Λ₀ .tc) α} :
    ptE c (oV (cy c) (cx c) r) ⊢ iprop((pt c (oV (cy c) (cx c) r) fullShare (oF m (cz c)) -∗ Wp c (k ⟨⟩) Q)
      -∗ Wp c (.op (.store oM (Rect.unit (s := S1024x512) o S64x512.size h) w Finset.univ hx hm) k) Q) := by
  subst ho
  have e := (read_o m (cy c) (cx c) r (cz c)).trans (by rw [dv_coords] : _ = red m c r)
  iintro ⟨%f, Hf⟩
  iapply (store_piece oM _ (fun _ => rfl) f (oF m (cz c)) (hw.trans e.symm)) $$ Hf

/-! ## Copies to the peers -/

variable {n : Dev nD} {sS sR : DmaSem sig} {src' dst' : Memref sig .tc .vmem S64x512 .bf16}
  {hsc : dst'.view.ref.isScScratch = false} {h1 : src'.view.WordExact} {h2 : dst'.view.WordExact}
  {h3 : DmaTarget.Typed .vmem (.dma sR) (.remote (Dev.tc n : Thread nD τ) dst' (.dma sS) hsc)}
  {k : PUnit → Prog (TpuEff nD τ sig (Elt F) Λ₀ .tc) α} {l : List Talk}

theorem fin4_back : ∀ a b : Fin 4, a + b - b = a := by decide

/-- A copy along `z`. -/
theorem step_z (r : Fin 2) (j : Fin 3) (hsrc : src' = sV r j) (hdst : dst' = rV r (cz c)) (hn : n = zup j.succ c)
    (hS : csem (.zs r j) = .dma sS) (hR : csem (.zr r j) = .dma sR) {Q : α → sProp 𝕄} :
    iprop(Know m K ∗ Free c (.zs r j) ∗ pt c (sV r j) fullShare (sF m c) ∗ ptE (zup j.succ c) (rV r (cz c)) ∗ Due c (tZ r j :: l))
      ⊢ iprop((Wait c (.zs r j) ∗ Due c l -∗ Wp c (k ⟨⟩) Q)
          -∗ Wp c (.op (.enqueueDma src' (.remote (Dev.tc n : Thread nD τ) dst' (.dma sS) hsc) (.dma sR) h1 h2 h3) k) Q) :=
  step_send (zup j.succ) (.zs r j) (.zr r j) (sV r j) (rV r (cz c)) hsrc hdst hn hS hR rfl rfl (fun h => nomatch h) (fun h => nomatch h)
    (credit_r _ _) fullShare (sF m c) (rF m (zup j.succ c)) (copy_z m c r j) rfl
    (pt_r_congr (by rw [cz_zup, fin4_back]) _ _)

/-- A copy of the device's own piece of the result along `y`. -/
theorem step_y (r : Fin 2) (j : Fin 3) (hsrc : src' = oV (cy c) (cx c) r) (hdst : dst' = oV (cy c) (cx c) r) (hn : n = yup j.succ c)
    (hS : csem (.ys r j) = .dma sS) (hR : csem (.yr r j) = .dma sR) {Q : α → sProp 𝕄} :
    iprop(Know m K ∗ Free c (.ys r j) ∗ pt c (oV (cy c) (cx c) r) (quarter j.castSucc) (oF m (cz c))
        ∗ ptE (yup j.succ c) (oV (cy c) (cx c) r) ∗ Due c (tY r j :: l))
      ⊢ iprop((Wait c (.ys r j) ∗ Due c l -∗ Wp c (k ⟨⟩) Q)
          -∗ Wp c (.op (.enqueueDma src' (.remote (Dev.tc n : Thread nD τ) dst' (.dma sS) hsc) (.dma sR) h1 h2 h3) k) Q) :=
  step_send (yup j.succ) (.ys r j) (.yr r j) (oV (cy c) (cx c) r) (oV (cy c) (cx c) r) hsrc hdst hn hS hR rfl rfl
    (fun h => nomatch h) (fun h => nomatch h) (credit_o _ _) (quarter j.castSucc) (oF m (cz c)) (oF m (cz c)) rfl rfl
    (by unfold copyPay; rw [cz_yup]; exact pt_o_congr (by rw [cy_yup, fin4_back]) (cx_yup _ _) _ _)

/-- The other device along `x` is opposite in both ways. -/
theorem x_back : ∀ x : Fin 2, x + 1 + 1 = x := by decide

/-- A copy along `x` of the slice that came from `k` back along `y`. -/
theorem step_x (r : Fin 2) (i : Fin 4) (hsrc : src' = oV (cy c - i) (cx c) r) (hdst : dst' = oV (cy c - i) (cx c) r) (hn : n = xsw c)
    (hS : csem (.xs r i) = .dma sS) (hR : csem (.xr r i) = .dma sR) {Q : α → sProp 𝕄} :
    iprop(Know m K ∗ Free c (.xs r i) ∗ pt c (oV (cy c - i) (cx c) r) (if i = 0 then quarter 3 else fullShare) (oF m (cz c))
        ∗ ptE (xsw c) (oV (cy c - i) (cx c) r) ∗ Due c (tX r i :: l))
      ⊢ iprop((Wait c (.xs r i) ∗ Due c l -∗ Wp c (k ⟨⟩) Q)
          -∗ Wp c (.op (.enqueueDma src' (.remote (Dev.tc n : Thread nD τ) dst' (.dma sS) hsc) (.dma sR) h1 h2 h3) k) Q) :=
  step_send xsw (.xs r i) (.xr r i) (oV (cy c - i) (cx c) r) (oV (cy c - i) (cx c) r) hsrc hdst hn hS hR rfl rfl
    (fun h => nomatch h) (fun h => nomatch h) (credit_o _ _) (if i = 0 then quarter 3 else fullShare) (oF m (cz c)) (oF m (cz c)) rfl rfl
    (by unfold copyPay; rw [cz_xsw]; exact pt_o_congr (by rw [cy_xsw]) (by rw [cx_xsw, x_back]) _ _)

end Cert.AllSum

end
-- ==== Proof.Mesh.State.lean ====
/-
# A device's state between two effects

What a device holds besides its buffers: what it still owes, what it needs to pay that, the semaphores it has yet to
wait on, in the order in which it waits, and those it is done with. A copy moves the head of the dues to the end of the
waits; a wait takes the head of the waits.
-/
module

public import proofs.«01_k».proof.Proof.Mesh.Access

@[expose] public section

noncomputable section

namespace Cert.AllSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : Dev nD × Cell → ℕ}
variable {c : Dev nD} {α : Type}

/-- One resource per entry of a list. -/
def Lst {ι : Type} (f : ι → sProp 𝕄) : List ι → sProp 𝕄
  | [] => iprop(emp)
  | x :: l => iprop(f x ∗ Lst f l)

theorem lst_cons {ι : Type} (f : ι → sProp 𝕄) (x : ι) (l : List ι) : Lst f (x :: l) = iprop(f x ∗ Lst f l) := rfl

theorem lst_snoc {ι : Type} (f : ι → sProp 𝕄) (x : ι) (l : List ι) : iprop(Lst f l ∗ f x) ⊢ Lst f (l ++ [x]) := by
  induction l with
  | nil =>
    rw [List.nil_append, lst_cons]
    iintro ⟨H, Hx⟩
    isplitl [Hx]; · iexact Hx
    iexact H
  | cons y l ih =>
    rw [List.cons_append, lst_cons, lst_cons]
    iintro ⟨⟨Hy, H⟩, Hx⟩
    isplitl [Hy]; · iexact Hy
    iapply ih
    isplitl [H]; · iexact H
    iexact Hx

/-- The send semaphore of the copy that credits a receive semaphore. -/
def snd : Cell → Cell
  | .zr r j => .zs r j
  | .yr r j => .ys r j
  | .xr r k => .xs r k
  | x => x

/-- The piece of the peer's buffer that a copy writes. -/
def target (c n : Dev nD) : Cell → sProp 𝕄
  | .zr r _ => ptE n (rV r (cz c))
  | .yr r _ => ptE n (oV (cy c) (cx c) r)
  | .xr r k => ptE n (oV (cy c - k) (cx c) r)
  | _ => iprop(emp)

/-- What a copy needs besides its source. -/
def Ready (c : Dev nD) (p : Talk) : sProp 𝕄 := iprop(Free c (snd p.2.1) ∗ target c (p.1 c) p.2.1)

variable (m K) in
/-- The state: the dues `l`, the waits `L`, the finished semaphores `D`. -/
def St (c : Dev nD) (l : List Talk) (L D : List Cell) : sProp 𝕄 :=
  iprop(Know m K ∗ Due c l ∗ Lst (Ready c) l ∗ Lst (Wait c) L ∗ Lst (Done c) D)

/-- A wait for one copy. -/
theorem st_recv {c : Dev nD} (x : Cell) {l : List Talk} {L D : List Cell} {s : DmaSem sig} (hx : csem x = .dma s) (bx : x ≠ .bar)
    (hl : ∀ p ∈ l, lvl x < lvl p.2.1) {sp sp' : Space} {sh : Shape} {e : EltTy} {src : Memref sig .tc sp sh e} {dst : Memref sig .tc sp' sh e}
    (hk' : dst.view.dmaCredit = tot x) {h1 : src.view.WordExact} {h2 : dst.view.WordExact}
    {Q : α → sProp 𝕄} {k : PUnit → Prog (TpuEff nD τ sig (Elt F) Λ₀ .tc) α} :
    St m K c l (x :: L) D
      ⊢ iprop((copyPay m c x ∗ St m K c l L (x :: D) -∗ Wp c (k ⟨⟩) Q) -∗ Wp c (.op (.waitDma2 s src dst h1 h2) k) Q) := by
  unfold St
  rw [lst_cons (Wait c), lst_cons (fun x => Done c x)]
  iintro ⟨#HK, HO, HR, ⟨Hw, HL⟩, HD⟩ Hk
  iapply (step_recv x hx bx hl hk') $$ [Hw HO]
  · isplitr; · iexact HK
    isplitl [Hw]; · iexact Hw
    iexact HO
  iintro ⟨Hp, Hd, HO⟩
  iapply Hk
  isplitl [Hp]; · iexact Hp
  isplitr; · iexact HK
  isplitl [HO]; · iexact HO
  isplitl [HR]; · iexact HR
  isplitl [HL]; · iexact HL
  isplitl [Hd]; · iexact Hd
  iexact HD

/-- How the state changes by a copy, from the copy's own rule. -/
theorem st_pay {c : Dev nD} {p : Talk} {l : List Talk} {L D : List Cell} {src Q R : sProp 𝕄}
    (h : iprop(Know m K ∗ Free c (snd p.2.1) ∗ src ∗ target c (p.1 c) p.2.1 ∗ Due c (p :: l))
      ⊢ iprop((Wait c (snd p.2.1) ∗ Due c l -∗ Q) -∗ R)) :
    iprop(St m K c (p :: l) L D ∗ src) ⊢ iprop((St m K c l (L ++ [snd p.2.1]) D -∗ Q) -∗ R) := by
  unfold St
  rw [lst_cons (Ready c)]
  unfold Ready
  iintro ⟨⟨#HK, HO, ⟨⟨Hf, Ht⟩, HR⟩, HL, HD⟩, Hs⟩ Hk
  iapply h $$ [Hf Ht Hs HO]
  · isplitr; · iexact HK
    isplitl [Hf]; · iexact Hf
    isplitl [Hs]; · iexact Hs
    isplitl [Ht]; · iexact Ht
    iexact HO
  iintro ⟨Hw, HO⟩
  iapply Hk
  isplitr; · iexact HK
  isplitl [HO]; · iexact HO
  isplitl [HR]; · iexact HR
  isplitl [HL Hw]
  · iapply (lst_snoc (Wait c))
    isplitl [HL]; · iexact HL
    iexact Hw
  iexact HD

variable {n : Dev nD} {sS sR : DmaSem sig} {src' dst' : Memref sig .tc .vmem S64x512 .bf16}
  {hsc : dst'.view.ref.isScScratch = false} {h1 : src'.view.WordExact} {h2 : dst'.view.WordExact}
  {h3 : DmaTarget.Typed .vmem (.dma sR) (.remote (Dev.tc n : Thread nD τ) dst' (.dma sS) hsc)}
  {k : PUnit → Prog (TpuEff nD τ sig (Elt F) Λ₀ .tc) α} {l : List Talk} {L D : List Cell}

/-- A copy along `z`. -/
theorem st_z (r : Fin 2) (j : Fin 3) (hsrc : src' = sV r j) (hdst : dst' = rV r (cz c)) (hn : n = zup j.succ c)
    (hS : csem (.zs r j) = .dma sS) (hR : csem (.zr r j) = .dma sR) {Q : α → sProp 𝕄} :
    iprop(St m K c (tZ r j :: l) L D ∗ pt c (sV r j) fullShare (sF m c))
      ⊢ iprop((St m K c l (L ++ [.zs r j]) D -∗ Wp c (k ⟨⟩) Q)
          -∗ Wp c (.op (.enqueueDma src' (.remote (Dev.tc n : Thread nD τ) dst' (.dma sS) hsc) (.dma sR) h1 h2 h3) k) Q) :=
  st_pay (p := tZ r j) (step_z r j hsrc hdst hn hS hR)

/-- A copy of the device's own piece of the result along `y`. -/
theorem st_y (r : Fin 2) (j : Fin 3) (hsrc : src' = oV (cy c) (cx c) r) (hdst : dst' = oV (cy c) (cx c) r) (hn : n = yup j.succ c)
    (hS : csem (.ys r j) = .dma sS) (hR : csem (.yr r j) = .dma sR) {Q : α → sProp 𝕄} :
    iprop(St m K c (tY r j :: l) L D ∗ pt c (oV (cy c) (cx c) r) (quarter j.castSucc) (oF m (cz c)))
      ⊢ iprop((St m K c l (L ++ [.ys r j]) D -∗ Wp c (k ⟨⟩) Q)
          -∗ Wp c (.op (.enqueueDma src' (.remote (Dev.tc n : Thread nD τ) dst' (.dma sS) hsc) (.dma sR) h1 h2 h3) k) Q) :=
  st_pay (p := tY r j) (step_y r j hsrc hdst hn hS hR)

/-- A copy along `x`. -/
theorem st_x (r : Fin 2) (i : Fin 4) (hsrc : src' = oV (cy c - i) (cx c) r) (hdst : dst' = oV (cy c - i) (cx c) r) (hn : n = xsw c)
    (hS : csem (.xs r i) = .dma sS) (hR : csem (.xr r i) = .dma sR) {Q : α → sProp 𝕄} :
    iprop(St m K c (tX r i :: l) L D ∗ pt c (oV (cy c - i) (cx c) r) (if i = 0 then quarter 3 else fullShare) (oF m (cz c)))
      ⊢ iprop((St m K c l (L ++ [.xs r i]) D -∗ Wp c (k ⟨⟩) Q)
          -∗ Wp c (.op (.enqueueDma src' (.remote (Dev.tc n : Thread nD τ) dst' (.dma sS) hsc) (.dma sR) h1 h2 h3) k) Q) :=
  st_pay (p := tX r i) (step_x r i hsrc hdst hn hS hR)

/-! ## Phases -/

/-- The end of a part. -/
theorem wp_done {β : Type} {Q : β → sProp 𝕄} (a : β) : Q a ⊢ Wp c (.ret a) Q := by
  show Q a ⊢ wp frame (wpE (defs₀ (F := F)) 𝒱₀ (c : Thread nD τ) none) Set.univ (pure a) Q
  rw [wp_pure]
  iintro H
  imodintro
  iexact H

/-- The device's own index. -/
theorem step_id {Q : α → sProp 𝕄} {k : Dev nD → Prog (TpuEff nD τ sig (Elt F) Λ₀ .tc) α} : Wp c (k c) Q ⊢ Wp c (.op .deviceId k) Q :=
  Entails.of_eq (wp_deviceId (defs := defs₀ (F := F)) (𝒱 := 𝒱₀) (c := (c : Thread nD τ)) (bd := none) Set.univ).symm

variable (m K) in
/-- The state before the entry semaphore's wait: the dues `l`, and what the signals `b` of them hand over. -/
def Pre (c : Dev nD) (l b : List Talk) : sProp 𝕄 := iprop(Know m K ∗ Due c l ∗ Lst (fun p => barPay (p.1 c) p.2.2) b)

/-- An entry signal. -/
theorem pre_signal {b : List Talk} (e : Dev nD ≃ Dev nD) (d : Fin 7) (hn : n = e c) {s : Sem sig} (hs : s = barS) {k' : ℕ} (hk' : k' = 1) {Q : α → sProp 𝕄} :
    Pre m K c (tB e d :: l) (tB e d :: b)
      ⊢ iprop((Pre m K c l b -∗ Wp c (k ⟨⟩) Q) -∗ Wp c (.op (.semSignal (Dev.tc n : Thread nD τ) s k') k) Q) := by
  unfold Pre
  rw [lst_cons]
  iintro ⟨#HK, HO, Hg, Hb⟩ Hk
  iapply (step_signal (m := m) (K := K) e d hn hs hk') $$ [HO Hg]
  · isplitr; · iexact HK
    isplitl [Hg]; · iexact Hg
    iexact HO
  iintro HO
  iapply Hk
  isplitr; · iexact HK
  isplitl [HO]; · iexact HO
  iexact Hb

variable (m) in
/-- The device's own piece of the result, at the share that goes to its `i`-th peer. -/
abbrev Qt (c : Dev nD) (r : Fin 2) (i : Fin 4) : sProp 𝕄 := pt c (oV (cy c) (cx c) r) (quarter i) (oF m (cz c))

/-- The own piece, whole, is its four shares. -/
theorem quarters (r : Fin 2) : (pt c (oV (cy c) (cx c) r) fullShare (oF m (cz c)) : sProp 𝕄)
    = iprop((Qt m c r 0 ∗ Qt m c r 1) ∗ (Qt m c r 2 ∗ Qt m c r 3)) := by
  have h : ∀ q : PosShare TreeShare, (pt c (oV (cy c) (cx c) r) q (oF m (cz c)) : sProp 𝕄)
      = iprop(pt c (oV (cy c) (cx c) r) q.left (oF m (cz c)) ∗ pt c (oV (cy c) (cx c) r) q.right (oF m (cz c))) :=
    fun q => BI.Entails.antisymm (pointsTo_share (PosShare.mem_left_op_right q)).1 (pointsTo_share (PosShare.mem_left_op_right q)).2
  rw [h fullShare, h fullShare.left, h fullShare.right]
  rfl

theorem back0 : ∀ a : Fin 4, a - 0 = a := by decide

theorem lst_bigSepL {ι : Type} (f : ι → sProp 𝕄) (l : List ι) : Lst f l = bigSepL l f := by
  induction l with
  | nil => rfl
  | cons x l ih => rw [lst_cons, bigSepL_cons, ih]; rfl

/-- One resource per value of a finite type, listed. -/
theorem all_lst {ι : Type} [Fintype ι] [DecidableEq ι] (f : ι → sProp 𝕄) (l : List ι) (h : Finset.univ = l.toFinset) (hl : l.Nodup) :
    bigSep Finset.univ f = Lst f l := by
  rw [lst_bigSepL]; exact bigSep_univ_eq_bigSepL l h hl f

variable (m) in
/-- One half of the receive buffer, filled. -/
abbrev Slots (c : Dev nD) (r : Fin 2) : sProp 𝕄 :=
  iprop(pt c (rV r 0) fullShare (rF m c) ∗ pt c (rV r 1) fullShare (rF m c) ∗ pt c (rV r 2) fullShare (rF m c) ∗ pt c (rV r 3) fullShare (rF m c))

theorem back_back : ∀ z b : Fin 4, z - (z - b) = b := by decide

/-- Counting back from `z`. -/
def back (z : Fin 4) : Fin 4 ≃ Fin 4 := ⟨fun b => z - b, fun b => z - b, back_back z, back_back z⟩

/-- The own place and the three that landed are all four. -/
theorem slots (r : Fin 2) : iprop(pt c (rV r (cz c)) fullShare (rF m c) ∗ copyPay m c (.zr r 0) ∗ copyPay m c (.zr r 1) ∗ copyPay m c (.zr r 2))
    ⊢ Slots m c r := by
  have h := bigSep_univ_equiv (back (cz c)) (fun z => (pt c (rV r z) fullShare (rF m c) : sProp 𝕄))
  rw [all_lst _ [0, 1, 2, 3] (by decide) (by decide), all_lst _ [0, 1, 2, 3] (by decide) (by decide)] at h
  have h0 : (pt c (rV r (cz c)) fullShare (rF m c) : sProp 𝕄) = pt c (rV r (back (cz c) 0)) fullShare (rF m c) :=
    pt_r_congr (back0 _).symm _ _
  have e : Lst (fun z => (pt c (rV r z) fullShare (rF m c) : sProp 𝕄)) [0, 1, 2, 3] ⊢ Slots m c r := by
    unfold Slots
    rw [lst_cons, lst_cons, lst_cons, lst_cons]
    iintro ⟨Ha, Hb, Hc, Hd, -⟩
    isplitl [Ha]; · iexact Ha
    isplitl [Hb]; · iexact Hb
    isplitl [Hc]; · iexact Hc
    iexact Hd
  refine .trans ?_ e
  have hz : ∀ j : Fin 3, copyPay m c (.zr r j) = pt c (rV r (back (cz c) j.succ)) fullShare (rF m c) := fun j => rfl
  rw [h, h0, hz, hz, hz, lst_cons, lst_cons, lst_cons, lst_cons]
  iintro ⟨Ha, Hb, Hc, Hd⟩
  isplitl [Ha]; · iexact Ha
  isplitl [Hb]; · iexact Hb
  isplitl [Hc]; · iexact Hc
  isplitl [Hd]; · iexact Hd
  unfold Lst
  iempintro

/-- The copy along `x` of the device's own piece. -/
theorem st_own (r : Fin 2) (hsrc : src' = oV (cy c) (cx c) r) (hdst : dst' = oV (cy c) (cx c) r) (hn : n = xsw c)
    (hS : csem (.xs r 0) = .dma sS) (hR : csem (.xr r 0) = .dma sR) {Q : α → sProp 𝕄} :
    iprop(St m K c (tX r 0 :: l) L D ∗ Qt m c r 3)
      ⊢ iprop((St m K c l (L ++ [.xs r 0]) D -∗ Wp c (k ⟨⟩) Q)
          -∗ Wp c (.op (.enqueueDma src' (.remote (Dev.tc n : Thread nD τ) dst' (.dma sS) hsc) (.dma sR) h1 h2 h3) k) Q) := by
  have h := st_x (m := m) (K := K) (c := c) (l := l) (L := L) (D := D) (k := k) (h1 := h1) (h2 := h2) (h3 := h3) (Q := Q) r 0
    (by rw [back0]; exact hsrc) (by rw [back0]; exact hdst) hn hS hR
  rw [if_pos rfl, pt_o_congr (back0 (cy c)) rfl] at h
  exact h

/-- The copy along `x` of a piece that came along `y`. -/
theorem st_pass (r : Fin 2) (j : Fin 3) (hsrc : src' = oV (cy c - j.succ) (cx c) r) (hdst : dst' = oV (cy c - j.succ) (cx c) r) (hn : n = xsw c)
    (hS : csem (.xs r j.succ) = .dma sS) (hR : csem (.xr r j.succ) = .dma sR) {Q : α → sProp 𝕄} :
    iprop(St m K c (tX r j.succ :: l) L D ∗ copyPay m c (.yr r j))
      ⊢ iprop((St m K c l (L ++ [.xs r j.succ]) D -∗ Wp c (k ⟨⟩) Q)
          -∗ Wp c (.op (.enqueueDma src' (.remote (Dev.tc n : Thread nD τ) dst' (.dma sS) hsc) (.dma sR) h1 h2 h3) k) Q) := by
  have h := st_x (m := m) (K := K) (c := c) (l := l) (L := L) (D := D) (k := k) (h1 := h1) (h2 := h2) (h3 := h3) (Q := Q) r j.succ hsrc hdst hn hS hR
  rw [if_neg (Fin.succ_ne_zero j)] at h
  exact h

/-- A wait for one copy, whose piece joins those at hand. -/
theorem st_keep {c : Dev nD} (x : Cell) {l : List Talk} {L D G : List Cell} {s : DmaSem sig} (hx : csem x = .dma s) (bx : x ≠ .bar)
    (hl : ∀ p ∈ l, lvl x < lvl p.2.1) {sp sp' : Space} {sh : Shape} {e : EltTy} {src : Memref sig .tc sp sh e} {dst : Memref sig .tc sp' sh e}
    (hk' : dst.view.dmaCredit = tot x) {h1 : src.view.WordExact} {h2 : dst.view.WordExact}
    {Q : α → sProp 𝕄} {k : PUnit → Prog (TpuEff nD τ sig (Elt F) Λ₀ .tc) α} :
    iprop(St m K c l (x :: L) D ∗ Lst (copyPay m c) G)
      ⊢ iprop((St m K c l L (x :: D) ∗ Lst (copyPay m c) (x :: G) -∗ Wp c (k ⟨⟩) Q) -∗ Wp c (.op (.waitDma2 s src dst h1 h2) k) Q) := by
  rw [lst_cons (copyPay m c)]
  iintro ⟨HS, HG⟩ Hk
  iapply (st_recv x hx bx hl hk') $$ HS
  iintro ⟨Hp, HS⟩
  iapply Hk
  isplitl [HS]; · iexact HS
  isplitl [Hp]; · iexact Hp
  iexact HG

end Cert.AllSum

end
-- ==== Proof.Mesh.Pieces.lean ====
/-
# Taking the buffers apart and putting them together

Each buffer is exactly its pieces. Counted from the device's own place, the pieces are the ones it keeps, the ones it
hands to its peers on entry, and, at the end, the ones that came back or arrived.
-/
module

public import proofs.«01_k».proof.Proof.Mesh.State

@[expose] public section

noncomputable section

namespace Cert.AllSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ}
variable {c : Dev nD}

/-! ## The pieces of a whole buffer -/

/-- A whole buffer is the fibers of a key on its places. -/
theorem by_key {T : Type} [Fintype T] [DecidableEq T] {ℓ : Loc nD τ sig} (k : T → Finset (Idx ℓ)) (key : Idx ℓ → T)
    (h : ∀ t i, i ∈ k t ↔ key i = t) (q : PosShare TreeShare) (f : Buf (Elt F) ℓ) :
    (ℓ ↦[Finset.univ]{q} f : sProp 𝕄) = bigSep Finset.univ fun t => (ℓ ↦[k t]{q} f : sProp 𝕄) := by
  rw [← pointsTo_biUnion Finset.univ k fun t _ t' _ ht => Finset.disjoint_left.mpr fun i hi hi' => ht (((h t i).mp hi).symm.trans ((h t' i).mp hi'))]
  congr 1
  ext i
  exact ⟨fun _ => Finset.mem_biUnion.mpr ⟨key i, Finset.mem_univ _, (h _ i).mpr rfl⟩, fun _ => Finset.mem_univ i⟩

/-- Which piece of the staged result a place lies in. -/
def keyO (i : S1024x512.Idx) : Fin 4 × Fin 2 × Fin 2 :=
  (⟨(i 0).val / 256 % 4, Nat.mod_lt _ (by decide)⟩, ⟨(i 0).val / 128 % 2, Nat.mod_lt _ (by decide)⟩, ⟨(i 0).val / 64 % 2, Nat.mod_lt _ (by decide)⟩)
/-- Which piece of the send buffer a place lies in. -/
def keyS (i : S2x3x64x512.Idx) : Fin 2 × Fin 3 := (⟨(i 0).val, (i 0).isLt⟩, ⟨(i 1).val, (i 1).isLt⟩)
/-- Which piece of the receive buffer a place lies in. -/
def keyR (i : S2x4x64x512.Idx) : Fin 2 × Fin 4 := (⟨(i 0).val, (i 0).isLt⟩, ⟨(i 1).val, (i 1).isLt⟩)

theorem mem_o (t : Fin 4 × Fin 2 × Fin 2) (i : S1024x512.Idx) : i ∈ (oV t.1 t.2.1 t.2.2).view.set ↔ keyO i = t := by
  obtain ⟨y, x, r⟩ := t
  have h0 : (i 0).val < 1024 := (i 0).isLt
  have h1 : (i 1).val < 512 := (i 1).isLt
  rw [show (oV y x r).view.set = (Rect.unit (s := S1024x512) ![row y x r, 0] S64x512.size (inbO y x r)).set from View.set_slice_whole _ _,
    Rect.mem_set_unit]
  have hy := y.isLt; have hx := x.isLt; have hr := r.isLt
  have key : keyO i = (y, x, r) ↔ (i 0).val / 256 % 4 = y.val ∧ (i 0).val / 128 % 2 = x.val ∧ (i 0).val / 64 % 2 = r.val := by
    unfold keyO
    rw [Prod.mk.injEq, Prod.mk.injEq, Fin.ext_iff, Fin.ext_iff, Fin.ext_iff]
  rw [key]
  constructor
  · intro h
    have h := h 0
    change row y x r ≤ (i 0).val ∧ (i 0).val < row y x r + 64 at h
    unfold row at h
    omega
  · intro h a
    match a with
    | 0 => show row y x r ≤ (i 0).val ∧ (i 0).val < row y x r + 64; unfold row; omega
    | 1 => exact ⟨Nat.zero_le _, by show (i 1).val < 0 + 512; omega⟩

theorem mem_s (t : Fin 2 × Fin 3) (i : S2x3x64x512.Idx) : i ∈ (sV t.1 t.2).view.set ↔ keyS i = t := by
  obtain ⟨r, j⟩ := t
  have h2 : (i 2).val < 64 := (i 2).isLt
  have h3 : (i 3).val < 512 := (i 3).isLt
  rw [show (sV r j).view.set = (Rect.unit (s := S2x3x64x512) ![r.val, j.val, 0, 0] S1x1x64x512.size (inbS r j)).set from
      (View.set_reshape _ _).trans (View.set_slice_whole _ _), Rect.mem_set_unit]
  have key : keyS i = (r, j) ↔ (i 0).val = r.val ∧ (i 1).val = j.val := by
    unfold keyS
    rw [Prod.mk.injEq, Fin.ext_iff, Fin.ext_iff]
  rw [key]
  constructor
  · intro h
    have h0 := h 0; have h1 := h 1
    change r.val ≤ (i 0).val ∧ (i 0).val < r.val + 1 at h0
    change j.val ≤ (i 1).val ∧ (i 1).val < j.val + 1 at h1
    omega
  · intro h a
    match a with
    | 0 => show r.val ≤ (i 0).val ∧ (i 0).val < r.val + 1; omega
    | 1 => show j.val ≤ (i 1).val ∧ (i 1).val < j.val + 1; omega
    | 2 => exact ⟨Nat.zero_le _, by show (i 2).val < 0 + 64; omega⟩
    | 3 => exact ⟨Nat.zero_le _, by show (i 3).val < 0 + 512; omega⟩

theorem mem_r (t : Fin 2 × Fin 4) (i : S2x4x64x512.Idx) : i ∈ (rV t.1 t.2).view.set ↔ keyR i = t := by
  obtain ⟨r, j⟩ := t
  have h2 : (i 2).val < 64 := (i 2).isLt
  have h3 : (i 3).val < 512 := (i 3).isLt
  rw [show (rV r j).view.set = (Rect.unit (s := S2x4x64x512) ![r.val, j.val, 0, 0] S1x1x64x512.size (inbR r j)).set from
      (View.set_reshape _ _).trans (View.set_slice_whole _ _), Rect.mem_set_unit]
  have key : keyR i = (r, j) ↔ (i 0).val = r.val ∧ (i 1).val = j.val := by
    unfold keyR
    rw [Prod.mk.injEq, Fin.ext_iff, Fin.ext_iff]
  rw [key]
  constructor
  · intro h
    have h0 := h 0; have h1 := h 1
    change r.val ≤ (i 0).val ∧ (i 0).val < r.val + 1 at h0
    change j.val ≤ (i 1).val ∧ (i 1).val < j.val + 1 at h1
    omega
  · intro h a
    match a with
    | 0 => show r.val ≤ (i 0).val ∧ (i 0).val < r.val + 1; omega
    | 1 => show j.val ≤ (i 1).val ∧ (i 1).val < j.val + 1; omega
    | 2 => exact ⟨Nat.zero_le _, by show (i 2).val < 0 + 64; omega⟩
    | 3 => exact ⟨Nat.zero_le _, by show (i 3).val < 0 + 512; omega⟩

/-- The staged result is its sixteen pieces. -/
theorem o_pieces (q : PosShare TreeShare) (f : Buf (Elt F) (oM.view.loc (c : Thread nD τ))) :
    (pt c oM q f : sProp 𝕄) = bigSep Finset.univ fun t : Fin 4 × Fin 2 × Fin 2 => pt c (oV t.1 t.2.1 t.2.2) q f := by
  refine .trans ?_ (by_key (ℓ := oM.view.loc (c : Thread nD τ)) (fun t : Fin 4 × Fin 2 × Fin 2 => (oV t.1 t.2.1 t.2.2).view.set) keyO mem_o q f)
  show (_ ↦[oM.view.set]{q} f : sProp 𝕄) = _
  rw [show oM.view.set = Finset.univ from View.set_whole _]

/-- The send buffer is its six pieces. -/
theorem s_pieces (q : PosShare TreeShare) (f : Buf (Elt F) (sM.view.loc (c : Thread nD τ))) :
    (pt c sM q f : sProp 𝕄) = bigSep Finset.univ fun t : Fin 2 × Fin 3 => pt c (sV t.1 t.2) q f := by
  refine .trans ?_ (by_key (ℓ := sM.view.loc (c : Thread nD τ)) (fun t : Fin 2 × Fin 3 => (sV t.1 t.2).view.set) keyS mem_s q f)
  show (_ ↦[sM.view.set]{q} f : sProp 𝕄) = _
  rw [show sM.view.set = Finset.univ from View.set_whole _]

/-- The receive buffer is its eight pieces. -/
theorem r_pieces (q : PosShare TreeShare) (f : Buf (Elt F) (rM.view.loc (c : Thread nD τ))) :
    (pt c rM q f : sProp 𝕄) = bigSep Finset.univ fun t : Fin 2 × Fin 4 => pt c (rV t.1 t.2) q f := by
  refine .trans ?_ (by_key (ℓ := rM.view.loc (c : Thread nD τ)) (fun t : Fin 2 × Fin 4 => (rV t.1 t.2).view.set) keyR mem_r q f)
  show (_ ↦[rM.view.set]{q} f : sProp 𝕄) = _
  rw [show rM.view.set = Finset.univ from View.set_whole _]

/-! ## Counted from the device's own place -/

/-- Counting on from `z`. -/
def onZ (z : Fin 4) : Fin 4 ≃ Fin 4 where
  toFun k := z + k
  invFun k := k - z
  left_inv := by revert z; decide
  right_inv := by revert z; decide

/-- Counting on from `x`. -/
def onX (x : Fin 2) : Fin 2 ≃ Fin 2 where
  toFun k := x + k
  invFun k := k - x
  left_inv := by revert x; decide
  right_inv := by revert x; decide

/-- Pieces of the staged result: how far back along `y`, how far on along `x`, which half. -/
def turnO (c : Dev nD) : Fin 4 × Fin 2 × Fin 2 ≃ Fin 4 × Fin 2 × Fin 2 :=
  (back (cy c)).prodCongr ((onX (cx c)).prodCongr (Equiv.refl _))
/-- Pieces of the receive buffer: which half, how far on along `z`. -/
def turnR (c : Dev nD) : Fin 2 × Fin 4 ≃ Fin 2 × Fin 4 := (Equiv.refl _).prodCongr (onZ (cz c))

abbrev listO : List (Fin 4 × Fin 2 × Fin 2) :=
  [(0, 0, 0), (0, 0, 1), (1, 0, 0), (1, 0, 1), (2, 0, 0), (2, 0, 1), (3, 0, 0), (3, 0, 1),
    (0, 1, 0), (1, 1, 0), (2, 1, 0), (3, 1, 0), (0, 1, 1), (1, 1, 1), (2, 1, 1), (3, 1, 1)]
abbrev listR : List (Fin 2 × Fin 4) := [(0, 0), (1, 0), (0, 1), (1, 1), (0, 2), (1, 2), (0, 3), (1, 3)]
abbrev listS : List (Fin 2 × Fin 3) := [(0, 0), (0, 1), (0, 2), (1, 0), (1, 1), (1, 2)]

theorem o_turned (q : PosShare TreeShare) (f : Buf (Elt F) (oM.view.loc (c : Thread nD τ))) :
    (pt c oM q f : sProp 𝕄) = Lst (fun t : Fin 4 × Fin 2 × Fin 2 => pt c (oV (cy c - t.1) (cx c + t.2.1) t.2.2) q f) listO := by
  rw [o_pieces, bigSep_univ_equiv (turnO c), all_lst _ listO (by decide) (by decide)]
  rfl
theorem r_turned (q : PosShare TreeShare) (f : Buf (Elt F) (rM.view.loc (c : Thread nD τ))) :
    (pt c rM q f : sProp 𝕄) = Lst (fun t : Fin 2 × Fin 4 => pt c (rV t.1 (cz c + t.2)) q f) listR := by
  rw [r_pieces, bigSep_univ_equiv (turnR c), all_lst _ listR (by decide) (by decide)]
  rfl
theorem s_listed (q : PosShare TreeShare) (f : Buf (Elt F) (sM.view.loc (c : Thread nD τ))) :
    (pt c sM q f : sProp 𝕄) = Lst (fun t : Fin 2 × Fin 3 => pt c (sV t.1 t.2) q f) listS := by
  rw [s_pieces, all_lst _ listS (by decide) (by decide)]

theorem lst_mono {ι : Type} {f g : ι → sProp 𝕄} (h : ∀ x, f x ⊢ g x) (l : List ι) : Lst f l ⊢ Lst g l := by
  induction l with
  | nil => exact .rfl
  | cons x l ih => rw [lst_cons, lst_cons]; exact BI.sep_mono (h x) ih

theorem lst_map {ι κ : Type} (f : ι → sProp 𝕄) (e : κ → ι) (l : List κ) : Lst f (l.map e) = Lst (fun x => f (e x)) l := by
  induction l with
  | nil => rfl
  | cons x l ih => rw [List.map_cons, lst_cons, lst_cons, ih]

/-- A piece at unknown content. -/
theorem ptE_intro {sp : Space} {s : Shape} {e : EltTy} (M : Memref sig .tc sp s e) (f : Buf (Elt F) (M.view.loc (c : Thread nD τ))) :
    pt c M fullShare f ⊢ (ptE c M : sProp 𝕄) := by
  iintro H
  iexists f
  iexact H

theorem o_any : (ptE c oM : sProp 𝕄) ⊢ Lst (fun t : Fin 4 × Fin 2 × Fin 2 => (ptE c (oV (cy c - t.1) (cx c + t.2.1) t.2.2) : sProp 𝕄)) listO := by
  refine exists_elim fun f => ?_
  rw [o_turned]
  refine lst_mono (fun t => ?_) listO
  exact ptE_intro (oV (cy c - t.1) (cx c + t.2.1) t.2.2) f
theorem r_any : (ptE c rM : sProp 𝕄) ⊢ Lst (fun t : Fin 2 × Fin 4 => (ptE c (rV t.1 (cz c + t.2)) : sProp 𝕄)) listR := by
  refine exists_elim fun f => ?_
  rw [r_turned]
  refine lst_mono (fun t => ?_) listR
  exact ptE_intro (rV t.1 (cz c + t.2)) f
theorem s_any : (ptE c sM : sProp 𝕄) ⊢ Lst (fun t : Fin 2 × Fin 3 => (ptE c (sV t.1 t.2) : sProp 𝕄)) listS := by
  refine exists_elim fun f => ?_
  rw [s_listed]
  refine lst_mono (fun t => ?_) listS
  exact ptE_intro (sV t.1 t.2) f

end Cert.AllSum

end
-- ==== Proof.Mesh.Entry.lean ====
/-
# What the buffers give on entry, and what is left at the end

On entry a device splits its receive buffer and its staged result into the pieces its seven signals hand over and the
pieces it keeps. The entry wait brings the same pieces of its peers, one for each copy. At the end every piece of its own
buffers is back or has arrived.
-/
module

public import proofs.«01_k».proof.Proof.Mesh.Pieces

@[expose] public section

noncomputable section

namespace Cert.AllSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ}
variable {c : Dev nD}

/-- The entry signals, in order. -/
abbrev bars : List Talk := [tB (zup 1) 0, tB (zup 2) 1, tB (zup 3) 2, tB (yup 1) 3, tB (yup 2) 4, tB (yup 3) 5, tB xsw 6]
/-- The copies, in order. -/
abbrev copies : List Talk :=
  [tZ 0 0, tZ 0 1, tZ 0 2, tZ 1 0, tZ 1 1, tZ 1 2, tY 0 0, tY 0 1, tY 0 2, tX 0 0,
    tY 1 0, tY 1 1, tY 1 2, tX 1 0, tX 0 1, tX 0 2, tX 0 3, tX 1 1, tX 1 2, tX 1 3]

/-! ## The entry signals -/

theorem zup_zup : ∀ c : Dev nD, zup 3 (zup 1 c) = c ∧ zup 2 (zup 2 c) = c ∧ zup 1 (zup 3 c) = c := by decide +kernel
theorem yup_yup : ∀ c : Dev nD, yup 3 (yup 1 c) = c ∧ yup 2 (yup 2 c) = c ∧ yup 1 (yup 3 c) = c := by decide +kernel
theorem xsw_xsw : ∀ c : Dev nD, xsw (xsw c) = c := by decide +kernel
theorem on_back : ∀ y : Fin 4, y + 1 = y - 3 ∧ y + 2 = y - 2 ∧ y + 3 = y - 1 := by decide

/-- The pieces of `c`'s receive buffer, by half and how far on along `z`. -/
abbrev pR (c : Dev nD) (t : Fin 2 × Fin 4) : sProp 𝕄 := ptE c (rV t.1 (cz c + t.2))
/-- The pieces of `c`'s staged result, by how far back along `y`, how far on along `x`, and half. -/
abbrev pO (c : Dev nD) (t : Fin 4 × Fin 2 × Fin 2) : sProp 𝕄 := ptE c (oV (cy c - t.1) (cx c + t.2.1) t.2.2)

theorem give_z (k : Fin 4) {p : Dev nD} (hp : p = c) : (zGift (zup k c) p : sProp 𝕄) = iprop(pR c (0, k) ∗ pR c (1, k)) := by
  subst hp
  unfold zGift
  rw [cz_zup, bigSep_univ_eq_bigSepL [0, 1] (by decide) (by decide)]
  rfl
theorem give_y (k k' : Fin 4) (hk : cy c + k = cy c - k') {p : Dev nD} (hp : p = c) :
    (yGift (yup k c) p : sProp 𝕄) = iprop(pO c (k', 0, 0) ∗ pO c (k', 0, 1)) := by
  subst hp
  unfold yGift
  rw [cy_yup, cx_yup, hk, bigSep_univ_eq_bigSepL [0, 1] (by decide) (by decide)]
  have h0 : cx p = cx p + 0 := (Fin.add_zero _).symm
  rw [h0]
  unfold pO
  rfl
theorem give_x : (xGift (xsw c) (xsw (xsw c)) : sProp 𝕄) = iprop(pO c (0, 1, 0) ∗ pO c (1, 1, 0) ∗ pO c (2, 1, 0) ∗ pO c (3, 1, 0)
    ∗ pO c (0, 1, 1) ∗ pO c (1, 1, 1) ∗ pO c (2, 1, 1) ∗ pO c (3, 1, 1)) := by
  rw [xsw_xsw]
  unfold xGift
  rw [cy_xsw, cx_xsw, bigSep_univ_eq_bigSepL [(0, 0), (0, 1), (0, 2), (0, 3), (1, 0), (1, 1), (1, 2), (1, 3)] (by decide) (by decide)]
  rfl

/-- The device's own places and what its signals hand over. -/
theorem entry : iprop(ptE c oM ∗ ptE c rM) ⊢ (iprop((pR c (0, 0) ∗ pR c (1, 0)) ∗ (pO c (0, 0, 0) ∗ pO c (0, 0, 1))
    ∗ Lst (fun p : Talk => barPay (p.1 c) p.2.2) bars) : sProp 𝕄) := by
  have h : (Lst (fun p : Talk => barPay (p.1 c) p.2.2) bars : sProp 𝕄) = iprop((pR c (0, 1) ∗ pR c (1, 1)) ∗ (pR c (0, 2) ∗ pR c (1, 2)) ∗ (pR c (0, 3) ∗ pR c (1, 3))
      ∗ (pO c (3, 0, 0) ∗ pO c (3, 0, 1)) ∗ (pO c (2, 0, 0) ∗ pO c (2, 0, 1)) ∗ (pO c (1, 0, 0) ∗ pO c (1, 0, 1))
      ∗ (pO c (0, 1, 0) ∗ pO c (1, 1, 0) ∗ pO c (2, 1, 0) ∗ pO c (3, 1, 0) ∗ pO c (0, 1, 1) ∗ pO c (1, 1, 1) ∗ pO c (2, 1, 1) ∗ pO c (3, 1, 1)) ∗ emp) := by
    rw [← give_z 1 (zup_zup c).1, ← give_z 2 (zup_zup c).2.1, ← give_z 3 (zup_zup c).2.2, ← give_y 1 3 (on_back _).1 (yup_yup c).1,
      ← give_y 2 2 (on_back _).2.1 (yup_yup c).2.1, ← give_y 3 1 (on_back _).2.2 (yup_yup c).2.2, ← give_x]
    rfl
  refine (BIClass.sep_mono o_any r_any).trans ?_
  rw [h]
  simp only [lst_cons]
  iintro ⟨⟨o000, o001, o100, o101, o200, o201, o300, o301, o010, o110, o210, o310, o011, o111, o211, o311, -⟩, r00, r10, r01, r11, r02, r12, r03, r13, -⟩
  isplitl [r00 r10]
  · isplitl [r00]; · iexact r00
    iexact r10
  isplitl [o000 o001]
  · isplitl [o000]; · iexact o000
    iexact o001
  isplitl [r01 r11]
  · isplitl [r01]; · iexact r01
    iexact r11
  isplitl [r02 r12]
  · isplitl [r02]; · iexact r02
    iexact r12
  isplitl [r03 r13]
  · isplitl [r03]; · iexact r03
    iexact r13
  isplitl [o300 o301]
  · isplitl [o300]; · iexact o300
    iexact o301
  isplitl [o200 o201]
  · isplitl [o200]; · iexact o200
    iexact o201
  isplitl [o100 o101]
  · isplitl [o100]; · iexact o100
    iexact o101
  isplitl [o010 o110 o210 o310 o011 o111 o211 o311]
  · isplitl [o010]; · iexact o010
    isplitl [o110]; · iexact o110
    isplitl [o210]; · iexact o210
    isplitl [o310]; · iexact o310
    isplitl [o011]; · iexact o011
    isplitl [o111]; · iexact o111
    isplitl [o211]; · iexact o211
    iexact o311
  iempintro

/-! ## What the entry wait brings -/

/-- The peer's piece that a copy of the dues writes. -/
abbrev tg (c : Dev nD) (p : Talk) : sProp 𝕄 := target c (p.1 c) p.2.1

theorem take_z (j : Fin 3) : (zGift c (zup j.succ c) : sProp 𝕄) = iprop(tg c (tZ 0 j) ∗ tg c (tZ 1 j)) := by
  unfold zGift
  rw [bigSep_univ_eq_bigSepL [0, 1] (by decide) (by decide)]
  rfl
theorem take_y (j : Fin 3) : (yGift c (yup j.succ c) : sProp 𝕄) = iprop(tg c (tY 0 j) ∗ tg c (tY 1 j)) := by
  unfold yGift
  rw [bigSep_univ_eq_bigSepL [0, 1] (by decide) (by decide)]
  rfl
theorem take_x : (xGift c (xsw c) : sProp 𝕄) = iprop(tg c (tX 0 0) ∗ tg c (tX 0 1) ∗ tg c (tX 0 2) ∗ tg c (tX 0 3)
    ∗ tg c (tX 1 0) ∗ tg c (tX 1 1) ∗ tg c (tX 1 2) ∗ tg c (tX 1 3)) := by
  unfold xGift
  rw [bigSep_univ_eq_bigSepL [(0, 0), (0, 1), (0, 2), (0, 3), (1, 0), (1, 1), (1, 2), (1, 3)] (by decide) (by decide)]
  rfl

/-- The pieces of its peers that the device's copies write. -/
theorem targets : bigSep (dut .bar) (fun d => pay m c .bar d) ⊢ Lst (tg c) copies := by
  have h : bigSep (dut .bar) (fun d => pay m c .bar d) = iprop((tg c (tZ 0 2) ∗ tg c (tZ 1 2)) ∗ (tg c (tZ 0 1) ∗ tg c (tZ 1 1)) ∗ (tg c (tZ 0 0) ∗ tg c (tZ 1 0))
      ∗ (tg c (tY 0 2) ∗ tg c (tY 1 2)) ∗ (tg c (tY 0 1) ∗ tg c (tY 1 1)) ∗ (tg c (tY 0 0) ∗ tg c (tY 1 0))
      ∗ (tg c (tX 0 0) ∗ tg c (tX 0 1) ∗ tg c (tX 0 2) ∗ tg c (tX 0 3) ∗ tg c (tX 1 0) ∗ tg c (tX 1 1) ∗ tg c (tX 1 2) ∗ tg c (tX 1 3))) := by
    rw [← take_z, ← take_z, ← take_z, ← take_y, ← take_y, ← take_y, ← take_x, bigSep_congr (fun d _ => pay_bar m c d)]
    unfold dut
    rw [if_pos rfl, bigSep_univ_eq_bigSepL [0, 1, 2, 3, 4, 5, 6] (by decide) (by decide)]
    rfl
  rw [h]
  simp only [lst_cons]
  iintro ⟨⟨z02, z12⟩, ⟨z01, z11⟩, ⟨z00, z10⟩, ⟨y02, y12⟩, ⟨y01, y11⟩, ⟨y00, y10⟩, x00, x01, x02, x03, x10, x11, x12, x13⟩
  isplitl [z00]; · iexact z00
  isplitl [z01]; · iexact z01
  isplitl [z02]; · iexact z02
  isplitl [z10]; · iexact z10
  isplitl [z11]; · iexact z11
  isplitl [z12]; · iexact z12
  isplitl [y00]; · iexact y00
  isplitl [y01]; · iexact y01
  isplitl [y02]; · iexact y02
  isplitl [x00]; · iexact x00
  isplitl [y10]; · iexact y10
  isplitl [y11]; · iexact y11
  isplitl [y12]; · iexact y12
  isplitl [x10]; · iexact x10
  isplitl [x01]; · iexact x01
  isplitl [x02]; · iexact x02
  isplitl [x03]; · iexact x03
  isplitl [x11]; · iexact x11
  isplitl [x12]; · iexact x12
  isplitl [x13]; · iexact x13
  unfold Lst
  iempintro

theorem lst_sep {ι : Type} (f g : ι → sProp 𝕄) (l : List ι) : iprop(Lst f l ∗ Lst g l) ⊢ Lst (fun x => iprop(f x ∗ g x)) l := by
  induction l with
  | nil =>
    iintro ⟨H, -⟩
    iexact H
  | cons x l ih =>
    rw [lst_cons, lst_cons, lst_cons]
    iintro ⟨⟨Hx, Hl⟩, Hy, Hr⟩
    isplitl [Hx Hy]
    · isplitl [Hx]; · iexact Hx
      iexact Hy
    iapply ih
    isplitl [Hl]; · iexact Hl
    iexact Hr

/-- The semaphores of the device's own copies, in order. -/
abbrev sends : List Cell := copies.map fun p => snd p.2.1

/-- All a device needs for its copies. -/
theorem ready : iprop(Lst (Free c) sends ∗ bigSep (dut .bar) (fun d => pay m c .bar d)) ⊢ Lst (Ready c) copies := by
  rw [lst_map]
  refine (sep_mono_right targets).trans ?_
  exact lst_sep (fun p : Talk => Free c (snd p.2.1)) (tg c) copies

/-! ## The end -/

/-- The receives, in the order of their waits. -/
abbrev receives : List Cell :=
  [.zr 0 0, .zr 0 1, .zr 0 2, .zr 1 0, .zr 1 1, .zr 1 2, .yr 0 0, .yr 0 1, .yr 0 2, .yr 1 0, .yr 1 1, .yr 1 2,
    .xr 0 0, .xr 0 1, .xr 0 2, .xr 0 3, .xr 1 0, .xr 1 1, .xr 1 2, .xr 1 3]

/-- The copies whose pieces are kept, in the reverse order of their waits. -/
abbrev kept : List Cell :=
  [.xs 1 3, .xs 1 2, .xs 1 1, .xs 0 3, .xs 0 2, .xs 0 1, .xs 1 0, .ys 1 2, .ys 1 1, .ys 1 0, .xs 0 0, .ys 0 2, .ys 0 1, .ys 0 0, .zs 1 2, .zs 1 1, .zs 1 0, .zs 0 2, .zs 0 1, .zs 0 0,
    .xr 1 3, .xr 1 2, .xr 1 1, .xr 1 0, .xr 0 3, .xr 0 2, .xr 0 1, .xr 0 0]

variable (m) in
/-- A piece of the finished staged result. -/
abbrev fO (c : Dev nD) (t : Fin 4 × Fin 2 × Fin 2) : sProp 𝕄 := pt c (oV (cy c - t.1) (cx c + t.2.1) t.2.2) fullShare (oF m (cz c))

theorem own_back (r : Fin 2) : iprop(copyPay m c (.ys r 0) ∗ copyPay m c (.ys r 1) ∗ copyPay m c (.ys r 2) ∗ copyPay m c (.xs r 0))
    ⊢ fO m c (0, 0, r) := by
  have h : fO m c (0, 0, r) = pt c (oV (cy c) (cx c) r) fullShare (oF m (cz c)) := pt_o_congr (back0 _) (Fin.add_zero _) _ _
  have h' : copyPay m c (.xs r 0) = Qt m c r 3 := by
    show pt c (oV (cy c - 0) (cx c) r) (if (0 : Fin 4) = 0 then quarter 3 else fullShare) (oF m (cz c)) = _
    rw [if_pos rfl]
    exact pt_o_congr (back0 _) rfl _ _
  have hy : ∀ j : Fin 3, copyPay m c (.ys r j) = Qt m c r j.castSucc := fun _ => rfl
  rw [h, quarters, h', hy, hy, hy]
  iintro ⟨H0, H1, H2, H3⟩
  isplitl [H0 H1]
  · isplitl [H0]; · iexact H0
    iexact H1
  isplitl [H2]; · iexact H2
  iexact H3
theorem pass_back (r : Fin 2) (j : Fin 3) : copyPay m c (.xs r j.succ) ⊢ fO m c (j.succ, 0, r) := by
  show pt c (oV (cy c - j.succ) (cx c) r) (if j.succ = 0 then quarter 3 else fullShare) (oF m (cz c)) ⊢ _
  rw [if_neg (Fin.succ_ne_zero j)]
  exact Entails.of_eq (pt_o_congr rfl (Fin.add_zero _).symm _ _)
theorem came_x (r : Fin 2) (k : Fin 4) : copyPay m c (.xr r k) ⊢ fO m c (k, 1, r) := .rfl

/-- The device's staged result and its send buffer, whole. -/
theorem whole_end : Lst (copyPay m c) kept ⊢ iprop(pt c oM fullShare (oF m (cz c)) ∗ pt c sM fullShare (sF m c)) := by
  have hz : ∀ t : Fin 2 × Fin 3, copyPay m c (.zs t.1 t.2) = pt c (sV t.1 t.2) fullShare (sF m c) := fun _ => rfl
  rw [o_turned, s_listed, ← funext hz]
  simp only [lst_cons]
  iintro ⟨xs13, xs12, xs11, xs03, xs02, xs01, xs10, ys12, ys11, ys10, xs00, ys02, ys01, ys00, zs12, zs11, zs10, zs02, zs01, zs00, xr13, xr12, xr11, xr10, xr03, xr02, xr01, xr00, -⟩
  isplitr [zs00 zs01 zs02 zs10 zs11 zs12]
  · isplitl [ys00 ys01 ys02 xs00]
    · iapply (own_back 0)
      isplitl [ys00]; · iexact ys00
      isplitl [ys01]; · iexact ys01
      isplitl [ys02]; · iexact ys02
      iexact xs00
    isplitl [ys10 ys11 ys12 xs10]
    · iapply (own_back 1)
      isplitl [ys10]; · iexact ys10
      isplitl [ys11]; · iexact ys11
      isplitl [ys12]; · iexact ys12
      iexact xs10
    isplitl [xs01]; · iapply (pass_back 0 0); iexact xs01
    isplitl [xs11]; · iapply (pass_back 1 0); iexact xs11
    isplitl [xs02]; · iapply (pass_back 0 1); iexact xs02
    isplitl [xs12]; · iapply (pass_back 1 1); iexact xs12
    isplitl [xs03]; · iapply (pass_back 0 2); iexact xs03
    isplitl [xs13]; · iapply (pass_back 1 2); iexact xs13
    isplitl [xr00]; · iapply (came_x 0 0); iexact xr00
    isplitl [xr01]; · iapply (came_x 0 1); iexact xr01
    isplitl [xr02]; · iapply (came_x 0 2); iexact xr02
    isplitl [xr03]; · iapply (came_x 0 3); iexact xr03
    isplitl [xr10]; · iapply (came_x 1 0); iexact xr10
    isplitl [xr11]; · iapply (came_x 1 1); iexact xr11
    isplitl [xr12]; · iapply (came_x 1 2); iexact xr12
    isplitl [xr13]; · iapply (came_x 1 3); iexact xr13
    unfold Lst
    iempintro
  isplitl [zs00]; · iexact zs00
  isplitl [zs01]; · iexact zs01
  isplitl [zs02]; · iexact zs02
  isplitl [zs10]; · iexact zs10
  isplitl [zs11]; · iexact zs11
  isplitl [zs12]; · iexact zs12
  unfold Lst
  iempintro

/-- The device's receive buffer, whole. -/
theorem whole_recv : iprop(Slots m c 0 ∗ Slots m c 1) ⊢ pt c rM fullShare (rF m c) := by
  rw [r_pieces, all_lst _ [(0, 0), (0, 1), (0, 2), (0, 3), (1, 0), (1, 1), (1, 2), (1, 3)] (by decide) (by decide)]
  unfold Slots
  simp only [lst_cons]
  iintro ⟨⟨a0, a1, a2, a3⟩, b0, b1, b2, b3⟩
  isplitl [a0]; · iexact a0
  isplitl [a1]; · iexact a1
  isplitl [a2]; · iexact a2
  isplitl [a3]; · iexact a3
  isplitl [b0]; · iexact b0
  isplitl [b1]; · iexact b1
  isplitl [b2]; · iexact b2
  isplitl [b3]; · iexact b3
  unfold Lst
  iempintro

end Cert.AllSum

end
-- ==== Proof.Mesh.PartsA.lean ====
/-
# The first part of the body: entry and the sends along `z`

The entry signals and their wait, the copy of the device's slice of its argument, and, for either half of the slice, the
three sends along `z` and the device's own block.
-/
module

public import proofs.«01_k».proof.Proof.Mesh.State

@[expose] public section

noncomputable section

namespace Cert.AllSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : Dev nD × Cell → ℕ} {c : Dev nD} {l : List Talk} {L D : List Cell}
variable {h0 : aM.IsWhole} {h1 : oM.IsWhole} {h2 : xM.IsWhole} {h3 : sM.IsWhole} {h4 : rM.IsWhole}

variable {b : List Talk}

/-- The copy of the slice starts; the first signal. -/
theorem part1 {Q : (Σ' (d0 : Dev nD) (v2 : BitVec 32) (v5 : BitVec 32) (v8 : BitVec 32) (v11 : BitVec 32) (v14 : Sems sig S_) (v32 : BitVec 32), BitVec 32) → sProp 𝕄} :
    iprop(Know m K ∗ Free c .stage ∗ pt c (aV (cy c) (cx c)) fullShare (m ((c : Thread nD τ).loc main_arg0)) ∗ ptE c xM ∗ Pre m K c (tB (zup 1) 0 :: l) (tB (zup 1) 0 :: b))
      ⊢ iprop((∀ v2 v5 v8 v11 v32 w, Wait c .stage ∗ Pre m K c (l) (b) -∗ Q ⟨c, v2, v5, v8, v11, SemArray.scalar (sig.barrier 0 rfl), v32, w⟩)
        -∗ Wp c (k0_part1 aM h0 oM h1 xM h2 sM h3 rM h4 cc0_scratch3 cc0_scratch4 cc0_scratch5 cc0_scratch6 cc0_scratch7 cc0_scratch8 cc0_scratch9  ) Q) := by
  rw [k0_part1_eq_skeleton]; unfold k0_part1_skel
  simp only [semSignalWord, semWaitWord, Prog.lift, Prog.bind_op, Prog.bind_ret, Prog.pure_eq_ret]
  iintro ⟨#HK, Hf, Ha, HX, HP⟩ Hk
  iapply step_id
  iapply (step_stage (m := m) (K := K) (c := c) (aAt_congr (off1 c) _ _) rfl) $$ [Hf Ha HX]
  · isplitr; · iexact HK
    isplitl [Hf]; · iexact Hf
    isplitl [Ha]; · iexact Ha
    iexact HX
  iintro Hw
  iapply (pre_signal (zup 1) 0 (dev1 c _) rfl rfl) $$ HP
  iintro HP
  iapply wp_done
  iapply Hk
  isplitl [Hw]; · iexact Hw
  iexact HP

/-- Two entry signals. -/
theorem part2 {v2 : BitVec 32} {v5 : BitVec 32} {v8 : BitVec 32} {v32 : BitVec 32} {c4_i32_17 : BitVec 32} {Q : (Σ' (v66 : BitVec 32), BitVec 32) → sProp 𝕄} :
    iprop(Pre m K c (tB (zup 2) 1 :: tB (zup 3) 2 :: l) (tB (zup 2) 1 :: tB (zup 3) 2 :: b))
      ⊢ iprop((∀ v, Pre m K c (l) (b) -∗ Q v)
        -∗ Wp c (k0_part2 aM h0 oM h1 xM h2 sM h3 rM h4 cc0_scratch3 cc0_scratch4 cc0_scratch5 cc0_scratch6 cc0_scratch7 cc0_scratch8 cc0_scratch9 c v2 v5 v8 (SemArray.scalar (sig.barrier 0 rfl)) v32 c4_i32_17) Q) := by
  rw [k0_part2_eq_skeleton]; unfold k0_part2_skel
  simp only [semSignalWord, semWaitWord, Prog.lift, Prog.bind_op, Prog.bind_ret, Prog.pure_eq_ret]
  iintro HP Hk
  iapply (pre_signal (zup 2) 1 (dev2 c _) rfl rfl) $$ HP
  iintro HP
  iapply (pre_signal (zup 3) 2 (dev3 c _) rfl rfl) $$ HP
  iintro HP
  iapply wp_done
  iapply Hk
  iexact HP

/-- Two entry signals. -/
theorem part3 {v2 : BitVec 32} {v5 : BitVec 32} {v8 : BitVec 32} {v66 : BitVec 32} {c4_i32_40 : BitVec 32} {Q : (Σ' (v100 : BitVec 32), BitVec 32) → sProp 𝕄} :
    iprop(Pre m K c (tB (yup 1) 3 :: tB (yup 2) 4 :: l) (tB (yup 1) 3 :: tB (yup 2) 4 :: b))
      ⊢ iprop((∀ v, Pre m K c (l) (b) -∗ Q v)
        -∗ Wp c (k0_part3 aM h0 oM h1 xM h2 sM h3 rM h4 cc0_scratch3 cc0_scratch4 cc0_scratch5 cc0_scratch6 cc0_scratch7 cc0_scratch8 cc0_scratch9 c v2 v5 v8 (SemArray.scalar (sig.barrier 0 rfl)) v66 c4_i32_40) Q) := by
  rw [k0_part3_eq_skeleton]; unfold k0_part3_skel
  simp only [semSignalWord, semWaitWord, Prog.lift, Prog.bind_op, Prog.bind_ret, Prog.pure_eq_ret]
  iintro HP Hk
  iapply (pre_signal (yup 1) 3 (dev4 c _) rfl rfl) $$ HP
  iintro HP
  iapply (pre_signal (yup 2) 4 (dev5 c _) rfl rfl) $$ HP
  iintro HP
  iapply wp_done
  iapply Hk
  iexact HP

/-- The last two entry signals, then the waits for the peers and for the slice. -/
theorem part4 {v2 : BitVec 32} {v5 : BitVec 32} {v8 : BitVec 32} {v100 : BitVec 32} {c4_i32_64 : BitVec 32} (hl : ∀ p ∈ l, lvl .bar < lvl p.2.1) {Q : (Σ' (v128 : BitVec 32) (v129 : BitVec 32) (v130 : BitVec 1), BitVec 32) → sProp 𝕄} :
    iprop(Pre m K c (tB (yup 3) 5 :: tB (xsw) 6 :: l) (tB (yup 3) 5 :: tB (xsw) 6 :: []) ∗ Wait c .bar ∗ Wait c .stage)
      ⊢ iprop((∀ v, Due c l ∗ bigSep (dut .bar) (fun d => pay m c .bar d) ∗ Done c .bar ∗ copyPay m c .stage ∗ Done c .stage -∗ Q v)
        -∗ Wp c (k0_part4 aM h0 oM h1 xM h2 sM h3 rM h4 cc0_scratch3 cc0_scratch4 cc0_scratch5 cc0_scratch6 cc0_scratch7 cc0_scratch8 cc0_scratch9 c v2 v5 v8 (SemArray.scalar (sig.barrier 0 rfl)) v100 c4_i32_64) Q) := by
  rw [k0_part4_eq_skeleton]; unfold k0_part4_skel
  simp only [semSignalWord, semWaitWord, Prog.lift, Prog.bind_op, Prog.bind_ret, Prog.pure_eq_ret]
  iintro ⟨HP, Hb, Hw⟩ Hk
  iapply (pre_signal (yup 3) 5 (dev6 c _) rfl rfl) $$ HP
  iintro HP
  iapply (pre_signal (xsw) 6 (dev7 c _) rfl rfl) $$ HP
  iintro HP
  unfold Pre
  icases HP with ⟨#HK, HO, -⟩
  iapply (step_wait (m := m) (K := K) .bar rfl hl rfl (wpE_semWait_eq 𝒱₀ (c : Thread nD τ) none Set.univ)) $$ [Hb HO]
  · isplitr; · iexact HK
    isplitl [Hb]; · iexact Hb
    iexact HO
  iintro ⟨Hp, Hd, HO⟩
  iapply (step_recv (m := m) (K := K) .stage rfl (fun h => nomatch h) (fun p hp => Nat.lt_trans Nat.one_pos (hl p hp)) rfl) $$ [Hw HO]
  · isplitr; · iexact HK
    isplitl [Hw]; · iexact Hw
    iexact HO
  iintro ⟨Hx, Hs, HO⟩
  iapply wp_done
  iapply Hk
  isplitl [HO]; · iexact HO
  isplitl [Hp]; · iexact Hp
  isplitl [Hd]; · iexact Hd
  isplitl [Hx]; · iexact Hx
  iexact Hs

/-- A send along `z` of the first half. -/
theorem part5 {v2 : BitVec 32} {v5 : BitVec 32} {v8 : BitVec 32} {v128 : BitVec 32} {v129 : BitVec 32} {v130 : BitVec 1} {c0_i32_88 : BitVec 32} {Q : (Σ' (v160 : BitVec 32) (v161 : BitVec 32), BitVec 32) → sProp 𝕄} :
    iprop(St m K c (tZ 0 0 :: l) L D ∗ pt c xM fullShare (xF m c) ∗ ptE c (sV 0 0))
      ⊢ iprop((∀ v, St m K c l (L ++ [.zs 0 0]) D ∗ pt c xM fullShare (xF m c) -∗ Q v)
        -∗ Wp c (k0_part5 aM h0 oM h1 xM h2 sM h3 rM h4 cc0_scratch3 cc0_scratch4 cc0_scratch5 cc0_scratch6 cc0_scratch7 cc0_scratch8 cc0_scratch9 c v2 v5 v8 v128 v129 v130 c0_i32_88) Q) := by
  rw [k0_part5_eq_skeleton]; unfold k0_part5_skel
  simp only [semSignalWord, semWaitWord, Prog.lift, Prog.bind_op, Prog.bind_ret, Prog.pure_eq_ret]
  iintro ⟨HS, HX, Hs⟩ Hk
  iapply (load_x 0 (cz c + 1) (off2 c 0)) $$ HX
  iintro HX
  iapply (load_s 0 0 rfl) $$ Hs
  iintro %v Hs
  iapply (store_s 0 0 rfl rfl) $$ Hs
  iintro Hs
  iapply (st_z 0 0 rfl (rAt_congr (off3 c) _ _) (dev8 c _) rfl rfl) $$ [HS Hs]
  · isplitl [HS]; · iexact HS
    iexact Hs
  iintro HS
  iapply wp_done
  iapply Hk
  isplitl [HS]; · iexact HS
  iexact HX

/-- A send along `z` of the first half. -/
theorem part6 {v2 : BitVec 32} {v5 : BitVec 32} {v8 : BitVec 32} {v160 : BitVec 32} {v161 : BitVec 32} {c0_i32_113 : BitVec 32} {Q : (Σ' (v190 : BitVec 32), BitVec 32) → sProp 𝕄} :
    iprop(St m K c (tZ 0 1 :: l) L D ∗ pt c xM fullShare (xF m c) ∗ ptE c (sV 0 1))
      ⊢ iprop((∀ v, St m K c l (L ++ [.zs 0 1]) D ∗ pt c xM fullShare (xF m c) -∗ Q v)
        -∗ Wp c (k0_part6 aM h0 oM h1 xM h2 sM h3 rM h4 cc0_scratch3 cc0_scratch4 cc0_scratch5 cc0_scratch6 cc0_scratch7 cc0_scratch8 cc0_scratch9 c v2 v5 v8 v160 v161 c0_i32_113) Q) := by
  rw [k0_part6_eq_skeleton]; unfold k0_part6_skel
  simp only [semSignalWord, semWaitWord, Prog.lift, Prog.bind_op, Prog.bind_ret, Prog.pure_eq_ret]
  iintro ⟨HS, HX, Hs⟩ Hk
  iapply (load_x 0 (cz c + 2) (off2 c 1)) $$ HX
  iintro HX
  iapply (load_s 0 1 rfl) $$ Hs
  iintro %v Hs
  iapply (store_s 0 1 rfl rfl) $$ Hs
  iintro Hs
  iapply (st_z 0 1 rfl (rAt_congr (off3 c) _ _) (dev9 c _) rfl rfl) $$ [HS Hs]
  · isplitl [HS]; · iexact HS
    iexact Hs
  iintro HS
  iapply wp_done
  iapply Hk
  isplitl [HS]; · iexact HS
  iexact HX

/-- The third send of the first half, and the load of the own block. -/
theorem part7 {v2 : BitVec 32} {v5 : BitVec 32} {v8 : BitVec 32} {v190 : BitVec 32} {v192 : BitVec 32} {Q : (Vec F S64x512 .f32) → sProp 𝕄} :
    iprop(St m K c (tZ 0 2 :: l) L D ∗ pt c xM fullShare (xF m c) ∗ ptE c (sV 0 2))
      ⊢ iprop((St m K c l (L ++ [.zs 0 2]) D ∗ pt c xM fullShare (xF m c) -∗ Q (xblk m c 0 (cz c)))
        -∗ Wp c (k0_part7 aM h0 oM h1 xM h2 sM h3 rM h4 cc0_scratch3 cc0_scratch4 cc0_scratch5 cc0_scratch6 cc0_scratch7 cc0_scratch8 cc0_scratch9 c v2 v5 v8 v190 v192) Q) := by
  rw [k0_part7_eq_skeleton]; unfold k0_part7_skel
  simp only [semSignalWord, semWaitWord, Prog.lift, Prog.bind_op, Prog.bind_ret, Prog.pure_eq_ret]
  iintro ⟨HS, HX, Hs⟩ Hk
  iapply (load_x 0 (cz c + 3) (off2 c 2)) $$ HX
  iintro HX
  iapply (load_s 0 2 rfl) $$ Hs
  iintro %v Hs
  iapply (store_s 0 2 rfl rfl) $$ Hs
  iintro Hs
  iapply (st_z 0 2 rfl (rAt_congr (off3 c) _ _) (dev10 c _) rfl rfl) $$ [HS Hs]
  · isplitl [HS]; · iexact HS
    iexact Hs
  iintro HS
  iapply (load_x 0 (cz c) (off4 c)) $$ HX
  iintro HX
  iapply wp_done
  iapply Hk
  isplitl [HS]; · iexact HS
  iexact HX

/-- The own block of the first half is stored, and the second half's first block for a peer. -/
theorem part8 {v2 : BitVec 32} {v5 : BitVec 32} {v8 : BitVec 32} {Q : (PUnit) → sProp 𝕄} :
    iprop(pt c xM fullShare (xF m c) ∗ ptE c (rV 0 (cz c)) ∗ ptE c (sV 1 0))
      ⊢ iprop((∀ v, pt c xM fullShare (xF m c) ∗ pt c (rV 0 (cz c)) fullShare (rF m c) ∗ pt c (sV 1 0) fullShare (sF m c) -∗ Q v)
        -∗ Wp c (k0_part8 aM h0 oM h1 xM h2 sM h3 rM h4 cc0_scratch3 cc0_scratch4 cc0_scratch5 cc0_scratch6 cc0_scratch7 cc0_scratch8 cc0_scratch9 c v2 v5 v8 (xblk m c 0 (cz c))) Q) := by
  rw [k0_part8_eq_skeleton]; unfold k0_part8_skel
  simp only [semSignalWord, semWaitWord, Prog.lift, Prog.bind_op, Prog.bind_ret, Prog.pure_eq_ret]
  iintro ⟨HX, Hr, Hs⟩ Hk
  iapply (load_r_any 0 (cz c) (off5 c)) $$ Hr
  iintro %w Hr
  iapply (store_r 0 (off5 c) rfl) $$ Hr
  iintro Hr
  iapply (load_x 1 (cz c + 1) (off6 c 0)) $$ HX
  iintro HX
  iapply (load_s 1 0 rfl) $$ Hs
  iintro %v Hs
  iapply (store_s 1 0 rfl rfl) $$ Hs
  iintro Hs
  iapply wp_done
  iapply Hk
  isplitl [HX]; · iexact HX
  isplitl [Hr]; · iexact Hr
  iexact Hs

/-- A send along `z` of the second half; the next block is stored. -/
theorem part9 {v2 : BitVec 32} {v5 : BitVec 32} {v8 : BitVec 32} {Q : (PUnit) → sProp 𝕄} :
    iprop(St m K c (tZ 1 0 :: l) L D ∗ pt c xM fullShare (xF m c) ∗ pt c (sV 1 0) fullShare (sF m c) ∗ ptE c (sV 1 1))
      ⊢ iprop((∀ v, St m K c l (L ++ [.zs 1 0]) D ∗ pt c xM fullShare (xF m c) ∗ pt c (sV 1 1) fullShare (sF m c) -∗ Q v)
        -∗ Wp c (k0_part9 aM h0 oM h1 xM h2 sM h3 rM h4 cc0_scratch3 cc0_scratch4 cc0_scratch5 cc0_scratch6 cc0_scratch7 cc0_scratch8 cc0_scratch9 c v2 v5 v8) Q) := by
  rw [k0_part9_eq_skeleton]; unfold k0_part9_skel
  simp only [semSignalWord, semWaitWord, Prog.lift, Prog.bind_op, Prog.bind_ret, Prog.pure_eq_ret]
  iintro ⟨HS, HX, Hs, Ht⟩ Hk
  iapply (st_z 1 0 rfl (rAt_congr (off7 c) _ _) (dev11 c _) rfl rfl) $$ [HS Hs]
  · isplitl [HS]; · iexact HS
    iexact Hs
  iintro HS
  iapply (load_x 1 (cz c + 2) (off6 c 1)) $$ HX
  iintro HX
  iapply (load_s 1 1 rfl) $$ Ht
  iintro %v Ht
  iapply (store_s 1 1 rfl rfl) $$ Ht
  iintro Ht
  iapply wp_done
  iapply Hk
  isplitl [HS]; · iexact HS
  isplitl [HX]; · iexact HX
  iexact Ht

/-- A send along `z` of the second half; the next block is stored. -/
theorem part10 {v2 : BitVec 32} {v5 : BitVec 32} {v8 : BitVec 32} {Q : (Σ' (v304 : BitVec 32) (v315 : BitVec 32), BitVec 32) → sProp 𝕄} :
    iprop(St m K c (tZ 1 1 :: l) L D ∗ pt c xM fullShare (xF m c) ∗ pt c (sV 1 1) fullShare (sF m c) ∗ ptE c (sV 1 2))
      ⊢ iprop((∀ v, St m K c l (L ++ [.zs 1 1]) D ∗ pt c xM fullShare (xF m c) ∗ pt c (sV 1 2) fullShare (sF m c) -∗ Q v)
        -∗ Wp c (k0_part10 aM h0 oM h1 xM h2 sM h3 rM h4 cc0_scratch3 cc0_scratch4 cc0_scratch5 cc0_scratch6 cc0_scratch7 cc0_scratch8 cc0_scratch9 c v2 v5 v8) Q) := by
  rw [k0_part10_eq_skeleton]; unfold k0_part10_skel
  simp only [semSignalWord, semWaitWord, Prog.lift, Prog.bind_op, Prog.bind_ret, Prog.pure_eq_ret]
  iintro ⟨HS, HX, Hs, Ht⟩ Hk
  iapply (st_z 1 1 rfl (rAt_congr (off7 c) _ _) (dev12 c _) rfl rfl) $$ [HS Hs]
  · isplitl [HS]; · iexact HS
    iexact Hs
  iintro HS
  iapply (load_x 1 (cz c + 3) (off6 c 2)) $$ HX
  iintro HX
  iapply (load_s 1 2 rfl) $$ Ht
  iintro %v Ht
  iapply (store_s 1 2 rfl rfl) $$ Ht
  iintro Ht
  iapply wp_done
  iapply Hk
  isplitl [HS]; · iexact HS
  isplitl [HX]; · iexact HX
  iexact Ht

/-- The last send along `z`; the own block of the second half is stored. -/
theorem part11 {v2 : BitVec 32} {v8 : BitVec 32} {v304 : BitVec 32} {v315 : BitVec 32} {c1_i32_246 : BitVec 32} {Q : (BitVec 32) → sProp 𝕄} :
    iprop(St m K c (tZ 1 2 :: l) L D ∗ pt c xM fullShare (xF m c) ∗ pt c (sV 1 2) fullShare (sF m c) ∗ ptE c (rV 1 (cz c)))
      ⊢ iprop((∀ v, St m K c l (L ++ [.zs 1 2]) D ∗ pt c xM fullShare (xF m c) ∗ pt c (rV 1 (cz c)) fullShare (rF m c) -∗ Q v)
        -∗ Wp c (k0_part11 aM h0 oM h1 xM h2 sM h3 rM h4 cc0_scratch3 cc0_scratch4 cc0_scratch5 cc0_scratch6 cc0_scratch7 cc0_scratch8 cc0_scratch9 c v2 v8 v304 v315 c1_i32_246) Q) := by
  rw [k0_part11_eq_skeleton]; unfold k0_part11_skel
  simp only [semSignalWord, semWaitWord, Prog.lift, Prog.bind_op, Prog.bind_ret, Prog.pure_eq_ret]
  iintro ⟨HS, HX, Hs, Hr⟩ Hk
  iapply (st_z 1 2 rfl (rAt_congr (off7 c) _ _) (dev13 c _) rfl rfl) $$ [HS Hs]
  · isplitl [HS]; · iexact HS
    iexact Hs
  iintro HS
  iapply (load_x 1 (cz c) (off8 c)) $$ HX
  iintro HX
  iapply (load_r_any 1 (cz c) (off9 c)) $$ Hr
  iintro %w Hr
  iapply (store_r 1 (off9 c) rfl) $$ Hr
  iintro Hr
  iapply wp_done
  iapply Hk
  isplitl [HS]; · iexact HS
  isplitl [HX]; · iexact HX
  iexact Hr

end Cert.AllSum

end
-- ==== Proof.Mesh.PartsB.lean ====
/-
# The second part of the body: the sums, and the sends along `y` and `x`

For either half: the blocks of the peers along `z` arrive, their sum is the device's own piece of the result, and it goes to
the peers along `y` and `x`. A piece that arrives along `y` goes on along `x`.
-/
module

public import proofs.«01_k».proof.Proof.Mesh.State

@[expose] public section

noncomputable section

namespace Cert.AllSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : Dev nD × Cell → ℕ} {c : Dev nD} {l : List Talk} {L D : List Cell}
variable {h0 : aM.IsWhole} {h1 : oM.IsWhole} {h2 : xM.IsWhole} {h3 : sM.IsWhole} {h4 : rM.IsWhole}

/-- The first peer's block arrives. -/
theorem part12 {v2 : BitVec 32} {v5 : BitVec 32} {v8 : BitVec 32} {v347 : BitVec 32} (hl : ∀ p ∈ l, lvl (.zr 0 0) < lvl p.2.1) {Q : (PUnit) → sProp 𝕄} :
    iprop(St m K c l (.zr 0 0 :: L) D)
      ⊢ iprop((∀ v, copyPay m c (.zr 0 0) ∗ St m K c l L (.zr 0 0 :: D) -∗ Q v)
        -∗ Wp c (k0_part12 aM h0 oM h1 xM h2 sM h3 rM h4 cc0_scratch3 cc0_scratch4 cc0_scratch5 cc0_scratch6 cc0_scratch7 cc0_scratch8 cc0_scratch9 c v2 v5 v8 v347) Q) := by
  rw [k0_part12_eq_skeleton]; unfold k0_part12_skel
  simp only [semSignalWord, semWaitWord, Prog.lift, Prog.bind_op, Prog.bind_ret, Prog.pure_eq_ret]
  iintro HS Hk
  iapply (st_recv (.zr 0 0) rfl (fun h => nomatch h) hl (credit_r _ _)) $$ HS
  iintro ⟨Hp, HS⟩
  iapply wp_done
  iapply Hk
  isplitl [Hp]; · iexact Hp
  iexact HS

/-- The other two blocks arrive; the first of the four to be added is loaded. -/
theorem part13 {v2 : BitVec 32} {v5 : BitVec 32} {v8 : BitVec 32} (hl : ∀ p ∈ l, lvl (.zr 0 0) < lvl p.2.1) {Q : (FVec F S64x512 .bf16) → sProp 𝕄} :
    iprop(St m K c l (.zr 0 1 :: .zr 0 2 :: L) D ∗ pt c (rV 0 (cz c)) fullShare (rF m c) ∗ copyPay m c (.zr 0 0))
      ⊢ iprop((St m K c l L (.zr 0 2 :: .zr 0 1 :: D) ∗ pt c (rV 0 0) fullShare (rF m c) ∗ pt c (rV 0 1) fullShare (rF m c) ∗ pt c (rV 0 2) fullShare (rF m c) ∗ pt c (rV 0 3) fullShare (rF m c) -∗ Q (k0_pay9 (blk m c 0 0)))
        -∗ Wp c (k0_part13 aM h0 oM h1 xM h2 sM h3 rM h4 cc0_scratch3 cc0_scratch4 cc0_scratch5 cc0_scratch6 cc0_scratch7 cc0_scratch8 cc0_scratch9 c v2 v5 v8) Q) := by
  rw [k0_part13_eq_skeleton]; unfold k0_part13_skel
  simp only [semSignalWord, semWaitWord, Prog.lift, Prog.bind_op, Prog.bind_ret, Prog.pure_eq_ret]
  iintro ⟨HS, Hr, Hp0⟩ Hk
  iapply (st_recv (.zr 0 1) rfl (fun h => nomatch h) hl (credit_r _ _)) $$ HS
  iintro ⟨Hp1, HS⟩
  iapply (st_recv (.zr 0 2) rfl (fun h => nomatch h) hl (credit_r _ _)) $$ HS
  iintro ⟨Hp2, HS⟩
  ihave ⟨Ha, Hb, Hc, Hd⟩ := (slots (m := m) (c := c) 0) $$ [Hr Hp0 Hp1 Hp2]
  · isplitl [Hr]; · iexact Hr
    isplitl [Hp0]; · iexact Hp0
    isplitl [Hp1]; · iexact Hp1
    iexact Hp2
  iapply (load_r 0 0 rfl) $$ Ha
  iintro Ha
  iapply wp_done
  iapply Hk
  isplitl [HS]; · iexact HS
  isplitl [Ha]; · iexact Ha
  isplitl [Hb]; · iexact Hb
  isplitl [Hc]; · iexact Hc
  iexact Hd

/-- The sum of the four, which is the own piece, is stored. -/
theorem part14 {v2 : BitVec 32} {v5 : BitVec 32} {v8 : BitVec 32} {v11 : BitVec 32} {Q : (PUnit) → sProp 𝕄} :
    iprop(pt c (rV 0 0) fullShare (rF m c) ∗ pt c (rV 0 1) fullShare (rF m c) ∗ pt c (rV 0 2) fullShare (rF m c) ∗ pt c (rV 0 3) fullShare (rF m c) ∗ ptE c (oV (cy c) (cx c) 0))
      ⊢ iprop((∀ v, pt c (rV 0 0) fullShare (rF m c) ∗ pt c (rV 0 1) fullShare (rF m c) ∗ pt c (rV 0 2) fullShare (rF m c) ∗ pt c (rV 0 3) fullShare (rF m c) ∗ ((Qt m c 0 0 ∗ Qt m c 0 1) ∗ (Qt m c 0 2 ∗ Qt m c 0 3)) -∗ Q v)
        -∗ Wp c (k0_part14 aM h0 oM h1 xM h2 sM h3 rM h4 cc0_scratch3 cc0_scratch4 cc0_scratch5 cc0_scratch6 cc0_scratch7 cc0_scratch8 cc0_scratch9 c v2 v5 v8 v11 (k0_pay9 (blk m c 0 0))) Q) := by
  rw [k0_part14_eq_skeleton]; unfold k0_part14_skel
  simp only [semSignalWord, semWaitWord, Prog.lift, Prog.bind_op, Prog.bind_ret, Prog.pure_eq_ret]
  iintro ⟨Ha, Hb, Hc, Hd, Ho⟩ Hk
  iapply (load_r 0 1 rfl) $$ Hb
  iintro Hb
  iapply (load_r 0 2 rfl) $$ Hc
  iintro Hc
  iapply (load_r 0 3 rfl) $$ Hd
  iintro Hd
  iapply (load_o (cy c) (cx c) 0 (off11 c 0)) $$ Ho
  iintro %w Ho
  iapply (store_o 0 (off11 c 0) rfl) $$ Ho
  iintro Ho
  ihave Ho := (Entails.of_eq (quarters (m := m) (c := c) 0)) $$ Ho
  iapply wp_done
  iapply Hk
  isplitl [Ha]; · iexact Ha
  isplitl [Hb]; · iexact Hb
  isplitl [Hc]; · iexact Hc
  isplitl [Hd]; · iexact Hd
  iexact Ho

/-- Two sends of the own piece along `y`. -/
theorem part15 {v2 : BitVec 32} {v5 : BitVec 32} {v8 : BitVec 32} {Q : (Σ' (v469 : BitVec 32) (v470 : BitVec 32), BitVec 1) → sProp 𝕄} :
    iprop(St m K c (tY 0 0 :: tY 0 1 :: l) L D ∗ Qt m c 0 0 ∗ Qt m c 0 1)
      ⊢ iprop((∀ v, St m K c l (L ++ [.ys 0 0] ++ [.ys 0 1]) D -∗ Q v)
        -∗ Wp c (k0_part15 aM h0 oM h1 xM h2 sM h3 rM h4 cc0_scratch3 cc0_scratch4 cc0_scratch5 cc0_scratch6 cc0_scratch7 cc0_scratch8 cc0_scratch9 c v2 v5 v8) Q) := by
  rw [k0_part15_eq_skeleton]; unfold k0_part15_skel
  simp only [semSignalWord, semWaitWord, Prog.lift, Prog.bind_op, Prog.bind_ret, Prog.pure_eq_ret]
  iintro ⟨HS, Ha, Hb⟩ Hk
  iapply (st_y 0 0 (oAt_congr (off12 c 0) _ _) (oAt_congr (off12 c 0) _ _) (dev14 c _) rfl rfl) $$ [HS Ha]
  · isplitl [HS]; · iexact HS
    iexact Ha
  iintro HS
  iapply (st_y 0 1 (oAt_congr (off12 c 0) _ _) (oAt_congr (off12 c 0) _ _) (dev15 c _) rfl rfl) $$ [HS Hb]
  · isplitl [HS]; · iexact HS
    iexact Hb
  iintro HS
  iapply wp_done
  iapply Hk
  iexact HS

/-- The third along `y`, and the send along `x`. -/
theorem part16 {v2 : BitVec 32} {v5 : BitVec 32} {v8 : BitVec 32} {v469 : BitVec 32} {v470 : BitVec 32} {v471 : BitVec 1} {Q : (BitVec 32) → sProp 𝕄} :
    iprop(St m K c (tY 0 2 :: tX 0 0 :: l) L D ∗ Qt m c 0 2 ∗ Qt m c 0 3)
      ⊢ iprop((∀ v, St m K c l (L ++ [.ys 0 2] ++ [.xs 0 0]) D -∗ Q v)
        -∗ Wp c (k0_part16 aM h0 oM h1 xM h2 sM h3 rM h4 cc0_scratch3 cc0_scratch4 cc0_scratch5 cc0_scratch6 cc0_scratch7 cc0_scratch8 cc0_scratch9 c v2 v5 v8 v469 v470 v471) Q) := by
  rw [k0_part16_eq_skeleton]; unfold k0_part16_skel
  simp only [semSignalWord, semWaitWord, Prog.lift, Prog.bind_op, Prog.bind_ret, Prog.pure_eq_ret]
  iintro ⟨HS, Ha, Hb⟩ Hk
  iapply (st_y 0 2 (oAt_congr (off12 c 0) _ _) (oAt_congr (off12 c 0) _ _) (dev16 c _) rfl rfl) $$ [HS Ha]
  · isplitl [HS]; · iexact HS
    iexact Ha
  iintro HS
  iapply (st_own 0  (oAt_congr (off12 c 0) _ _) (oAt_congr (off12 c 0) _ _) (dev17 c _) rfl rfl) $$ [HS Hb]
  · isplitl [HS]; · iexact HS
    iexact Hb
  iintro HS
  iapply wp_done
  iapply Hk
  iexact HS

/-- A block of the second half arrives. -/
theorem part17 {v2 : BitVec 32} {v5 : BitVec 32} {v8 : BitVec 32} {v504 : BitVec 32} (hl : ∀ p ∈ l, lvl (.zr 0 0) < lvl p.2.1) {Q : (Σ' (v530 : BitVec 32) (v531 : BitVec 32) (v532 : BitVec 1) (v533 : BitVec 1), BitVec 1) → sProp 𝕄} :
    iprop(St m K c l (.zr 1 0 :: L) D)
      ⊢ iprop((∀ v, copyPay m c (.zr 1 0) ∗ St m K c l L (.zr 1 0 :: D) -∗ Q v)
        -∗ Wp c (k0_part17 aM h0 oM h1 xM h2 sM h3 rM h4 cc0_scratch3 cc0_scratch4 cc0_scratch5 cc0_scratch6 cc0_scratch7 cc0_scratch8 cc0_scratch9 c v2 v5 v8 v504) Q) := by
  rw [k0_part17_eq_skeleton]; unfold k0_part17_skel
  simp only [semSignalWord, semWaitWord, Prog.lift, Prog.bind_op, Prog.bind_ret, Prog.pure_eq_ret]
  iintro HS Hk
  iapply (st_recv (.zr 1 0) rfl (fun h => nomatch h) hl (credit_r _ _)) $$ HS
  iintro ⟨Hp, HS⟩
  iapply wp_done
  iapply Hk
  isplitl [Hp]; · iexact Hp
  iexact HS

/-- A block of the second half arrives. -/
theorem part18 {v2 : BitVec 32} {v5 : BitVec 32} {v8 : BitVec 32} {v530 : BitVec 32} {v531 : BitVec 32} {v532 : BitVec 1} {v533 : BitVec 1} {v534 : BitVec 1} (hl : ∀ p ∈ l, lvl (.zr 0 0) < lvl p.2.1) {Q : (BitVec 32) → sProp 𝕄} :
    iprop(St m K c l (.zr 1 1 :: L) D)
      ⊢ iprop((∀ v, copyPay m c (.zr 1 1) ∗ St m K c l L (.zr 1 1 :: D) -∗ Q v)
        -∗ Wp c (k0_part18 aM h0 oM h1 xM h2 sM h3 rM h4 cc0_scratch3 cc0_scratch4 cc0_scratch5 cc0_scratch6 cc0_scratch7 cc0_scratch8 cc0_scratch9 c v2 v5 v8 v530 v531 v532 v533 v534) Q) := by
  rw [k0_part18_eq_skeleton]; unfold k0_part18_skel
  simp only [semSignalWord, semWaitWord, Prog.lift, Prog.bind_op, Prog.bind_ret, Prog.pure_eq_ret]
  iintro HS Hk
  iapply (st_recv (.zr 1 1) rfl (fun h => nomatch h) hl (credit_r _ _)) $$ HS
  iintro ⟨Hp, HS⟩
  iapply wp_done
  iapply Hk
  isplitl [Hp]; · iexact Hp
  iexact HS

/-- The last block arrives; the sum of the second half is stored. -/
theorem part19 {v2 : BitVec 32} {v5 : BitVec 32} {v8 : BitVec 32} {v11 : BitVec 32} {c16_i32_466 : BitVec 32} (hl : ∀ p ∈ l, lvl (.zr 0 0) < lvl p.2.1) {Q : (Σ' (v590 : BitVec 32) (c4_i32_493 : BitVec 32), BitVec 1) → sProp 𝕄} :
    iprop(St m K c l (.zr 1 2 :: L) D ∗ pt c (rV 1 (cz c)) fullShare (rF m c) ∗ copyPay m c (.zr 1 0) ∗ copyPay m c (.zr 1 1) ∗ ptE c (oV (cy c) (cx c) 1))
      ⊢ iprop((∀ v, St m K c l L (.zr 1 2 :: D) ∗ pt c (rV 1 0) fullShare (rF m c) ∗ pt c (rV 1 1) fullShare (rF m c) ∗ pt c (rV 1 2) fullShare (rF m c) ∗ pt c (rV 1 3) fullShare (rF m c) ∗ ((Qt m c 1 0 ∗ Qt m c 1 1) ∗ (Qt m c 1 2 ∗ Qt m c 1 3)) -∗ Q v)
        -∗ Wp c (k0_part19 aM h0 oM h1 xM h2 sM h3 rM h4 cc0_scratch3 cc0_scratch4 cc0_scratch5 cc0_scratch6 cc0_scratch7 cc0_scratch8 cc0_scratch9 c v2 v5 v8 v11 c16_i32_466) Q) := by
  rw [k0_part19_eq_skeleton]; unfold k0_part19_skel
  simp only [semSignalWord, semWaitWord, Prog.lift, Prog.bind_op, Prog.bind_ret, Prog.pure_eq_ret]
  iintro ⟨HS, Hr, Hp0, Hp1, Ho⟩ Hk
  iapply (st_recv (.zr 1 2) rfl (fun h => nomatch h) hl (credit_r _ _)) $$ HS
  iintro ⟨Hp2, HS⟩
  ihave ⟨Ha, Hb, Hc, Hd⟩ := (slots (m := m) (c := c) 1) $$ [Hr Hp0 Hp1 Hp2]
  · isplitl [Hr]; · iexact Hr
    isplitl [Hp0]; · iexact Hp0
    isplitl [Hp1]; · iexact Hp1
    iexact Hp2
  iapply (load_r 1 0 rfl) $$ Ha
  iintro Ha
  iapply (load_r 1 1 rfl) $$ Hb
  iintro Hb
  iapply (load_r 1 2 rfl) $$ Hc
  iintro Hc
  iapply (load_r 1 3 rfl) $$ Hd
  iintro Hd
  iapply (load_o (cy c) (cx c) 1 (off11 c 1)) $$ Ho
  iintro %w Ho
  iapply (store_o 1 (off11 c 1) rfl) $$ Ho
  iintro Ho
  ihave Ho := (Entails.of_eq (quarters (m := m) (c := c) 1)) $$ Ho
  iapply wp_done
  iapply Hk
  isplitl [HS]; · iexact HS
  isplitl [Ha]; · iexact Ha
  isplitl [Hb]; · iexact Hb
  isplitl [Hc]; · iexact Hc
  isplitl [Hd]; · iexact Hd
  iexact Ho

/-- A send along `y`. -/
theorem part20 {v2 : BitVec 32} {v5 : BitVec 32} {v8 : BitVec 32} {v590 : BitVec 32} {c4_i32_493 : BitVec 32} {v591 : BitVec 1} {Q : (Σ' (v623 : BitVec 32), BitVec 32) → sProp 𝕄} :
    iprop(St m K c (tY 1 0 :: l) L D ∗ Qt m c 1 0)
      ⊢ iprop((∀ v, St m K c l (L ++ [.ys 1 0]) D -∗ Q v)
        -∗ Wp c (k0_part20 aM h0 oM h1 xM h2 sM h3 rM h4 cc0_scratch3 cc0_scratch4 cc0_scratch5 cc0_scratch6 cc0_scratch7 cc0_scratch8 cc0_scratch9 c v2 v5 v8 v590 c4_i32_493 v591) Q) := by
  rw [k0_part20_eq_skeleton]; unfold k0_part20_skel
  simp only [semSignalWord, semWaitWord, Prog.lift, Prog.bind_op, Prog.bind_ret, Prog.pure_eq_ret]
  iintro ⟨HS, Ha⟩ Hk
  iapply (st_y 1 0 (oAt_congr (off12 c 1) _ _) (oAt_congr (off12 c 1) _ _) (dev18 c _) rfl rfl) $$ [HS Ha]
  · isplitl [HS]; · iexact HS
    iexact Ha
  iintro HS
  iapply wp_done
  iapply Hk
  iexact HS

/-- Two sends along `y`. -/
theorem part21 {v2 : BitVec 32} {v5 : BitVec 32} {v8 : BitVec 32} {v623 : BitVec 32} {v624 : BitVec 32} {Q : (BitVec 32) → sProp 𝕄} :
    iprop(St m K c (tY 1 1 :: tY 1 2 :: l) L D ∗ Qt m c 1 1 ∗ Qt m c 1 2)
      ⊢ iprop((∀ v, St m K c l (L ++ [.ys 1 1] ++ [.ys 1 2]) D -∗ Q v)
        -∗ Wp c (k0_part21 aM h0 oM h1 xM h2 sM h3 rM h4 cc0_scratch3 cc0_scratch4 cc0_scratch5 cc0_scratch6 cc0_scratch7 cc0_scratch8 cc0_scratch9 c v2 v5 v8 v623 v624) Q) := by
  rw [k0_part21_eq_skeleton]; unfold k0_part21_skel
  simp only [semSignalWord, semWaitWord, Prog.lift, Prog.bind_op, Prog.bind_ret, Prog.pure_eq_ret]
  iintro ⟨HS, Ha, Hb⟩ Hk
  iapply (st_y 1 1 (oAt_congr (off12 c 1) _ _) (oAt_congr (off12 c 1) _ _) (dev19 c _) rfl rfl) $$ [HS Ha]
  · isplitl [HS]; · iexact HS
    iexact Ha
  iintro HS
  iapply (st_y 1 2 (oAt_congr (off12 c 1) _ _) (oAt_congr (off12 c 1) _ _) (dev20 c _) rfl rfl) $$ [HS Hb]
  · isplitl [HS]; · iexact HS
    iexact Hb
  iintro HS
  iapply wp_done
  iapply Hk
  iexact HS

/-- The send along `x`. -/
theorem part22 {v2 : BitVec 32} {v5 : BitVec 32} {v8 : BitVec 32} {v659 : BitVec 32} {Q : (Σ' (v689 : BitVec 32), BitVec 32) → sProp 𝕄} :
    iprop(St m K c (tX 1 0 :: l) L D ∗ Qt m c 1 3)
      ⊢ iprop((∀ v, St m K c l (L ++ [.xs 1 0]) D -∗ Q v)
        -∗ Wp c (k0_part22 aM h0 oM h1 xM h2 sM h3 rM h4 cc0_scratch3 cc0_scratch4 cc0_scratch5 cc0_scratch6 cc0_scratch7 cc0_scratch8 cc0_scratch9 c v2 v5 v8 v659) Q) := by
  rw [k0_part22_eq_skeleton]; unfold k0_part22_skel
  simp only [semSignalWord, semWaitWord, Prog.lift, Prog.bind_op, Prog.bind_ret, Prog.pure_eq_ret]
  iintro ⟨HS, Ha⟩ Hk
  iapply (st_own 1  (oAt_congr (off12 c 1) _ _) (oAt_congr (off12 c 1) _ _) (dev21 c _) rfl rfl) $$ [HS Ha]
  · isplitl [HS]; · iexact HS
    iexact Ha
  iintro HS
  iapply wp_done
  iapply Hk
  iexact HS

/-- A piece arrives along `y` and goes on along `x`. -/
theorem part23 {v2 : BitVec 32} {v5 : BitVec 32} {v8 : BitVec 32} {v689 : BitVec 32} {v690 : BitVec 32} (hl : ∀ p ∈ tX 0 1 :: l, lvl (.yr 0 0) < lvl p.2.1) {Q : (Σ' (v724 : BitVec 32), BitVec 32) → sProp 𝕄} :
    iprop(St m K c (tX 0 1 :: l) (.yr 0 0 :: L) D)
      ⊢ iprop((∀ v, St m K c l (L ++ [.xs 0 1]) (.yr 0 0 :: D) -∗ Q v)
        -∗ Wp c (k0_part23 aM h0 oM h1 xM h2 sM h3 rM h4 cc0_scratch3 cc0_scratch4 cc0_scratch5 cc0_scratch6 cc0_scratch7 cc0_scratch8 cc0_scratch9 c v2 v5 v8 v689 v690) Q) := by
  rw [k0_part23_eq_skeleton]; unfold k0_part23_skel
  simp only [semSignalWord, semWaitWord, Prog.lift, Prog.bind_op, Prog.bind_ret, Prog.pure_eq_ret]
  iintro HS Hk
  iapply (st_recv (.yr 0 0) rfl (fun h => nomatch h) hl (credit_o _ _)) $$ HS
  iintro ⟨Hp, HS⟩
  iapply (st_pass 0 0 (oAt_congr (off14 c 0 0) _ _) (oAt_congr (off14 c 0 0) _ _) (dev22 c _) rfl rfl) $$ [HS Hp]
  · isplitl [HS]; · iexact HS
    iexact Hp
  iintro HS
  iapply wp_done
  iapply Hk
  iexact HS

/-- A piece arrives along `y` and goes on along `x`. -/
theorem part24 {v2 : BitVec 32} {v5 : BitVec 32} {v8 : BitVec 32} {v724 : BitVec 32} {c128_i32_595 : BitVec 32} (hl : ∀ p ∈ tX 0 2 :: l, lvl (.yr 0 0) < lvl p.2.1) {Q : (Σ' (v753 : BitVec 32) (v754 : BitVec 32), BitVec 32) → sProp 𝕄} :
    iprop(St m K c (tX 0 2 :: l) (.yr 0 1 :: L) D)
      ⊢ iprop((∀ v, St m K c l (L ++ [.xs 0 2]) (.yr 0 1 :: D) -∗ Q v)
        -∗ Wp c (k0_part24 aM h0 oM h1 xM h2 sM h3 rM h4 cc0_scratch3 cc0_scratch4 cc0_scratch5 cc0_scratch6 cc0_scratch7 cc0_scratch8 cc0_scratch9 c v2 v5 v8 v724 c128_i32_595) Q) := by
  rw [k0_part24_eq_skeleton]; unfold k0_part24_skel
  simp only [semSignalWord, semWaitWord, Prog.lift, Prog.bind_op, Prog.bind_ret, Prog.pure_eq_ret]
  iintro HS Hk
  iapply (st_recv (.yr 0 1) rfl (fun h => nomatch h) hl (credit_o _ _)) $$ HS
  iintro ⟨Hp, HS⟩
  iapply (st_pass 0 1 (oAt_congr (off14 c 1 0) _ _) (oAt_congr (off14 c 1 0) _ _) (dev23 c _) rfl rfl) $$ [HS Hp]
  · isplitl [HS]; · iexact HS
    iexact Hp
  iintro HS
  iapply wp_done
  iapply Hk
  iexact HS

/-- A piece arrives along `y` and goes on along `x`. -/
theorem part28 {v2 : BitVec 32} {v5 : BitVec 32} {v8 : BitVec 32} (hl : ∀ p ∈ tX 1 2 :: l, lvl (.yr 0 0) < lvl p.2.1) {Q : (BitVec 32) → sProp 𝕄} :
    iprop(St m K c (tX 1 2 :: l) (.yr 1 1 :: L) D)
      ⊢ iprop((∀ v, St m K c l (L ++ [.xs 1 2]) (.yr 1 1 :: D) -∗ Q v)
        -∗ Wp c (k0_part28 aM h0 oM h1 xM h2 sM h3 rM h4 cc0_scratch3 cc0_scratch4 cc0_scratch5 cc0_scratch6 cc0_scratch7 cc0_scratch8 cc0_scratch9 c v2 v5 v8) Q) := by
  rw [k0_part28_eq_skeleton]; unfold k0_part28_skel
  simp only [semSignalWord, semWaitWord, Prog.lift, Prog.bind_op, Prog.bind_ret, Prog.pure_eq_ret]
  iintro HS Hk
  iapply (st_recv (.yr 1 1) rfl (fun h => nomatch h) hl (credit_o _ _)) $$ HS
  iintro ⟨Hp, HS⟩
  iapply (st_pass 1 1 (oAt_congr (off14 c 1 1) _ _) (oAt_congr (off14 c 1 1) _ _) (dev26 c _) rfl rfl) $$ [HS Hp]
  · isplitl [HS]; · iexact HS
    iexact Hp
  iintro HS
  iapply wp_done
  iapply Hk
  iexact HS

/-- A piece arrives along `y` and goes on along `x`. -/
theorem part29 {v2 : BitVec 32} {v5 : BitVec 32} {v8 : BitVec 32} {c16_i32_729 : BitVec 32} (hl : ∀ p ∈ tX 1 3 :: l, lvl (.yr 0 0) < lvl p.2.1) {Q : (Σ' (v910 : BitVec 32) (v915 : BitVec 1), BitVec 32) → sProp 𝕄} :
    iprop(St m K c (tX 1 3 :: l) (.yr 1 2 :: L) D)
      ⊢ iprop((∀ v, St m K c l (L ++ [.xs 1 3]) (.yr 1 2 :: D) -∗ Q v)
        -∗ Wp c (k0_part29 aM h0 oM h1 xM h2 sM h3 rM h4 cc0_scratch3 cc0_scratch4 cc0_scratch5 cc0_scratch6 cc0_scratch7 cc0_scratch8 cc0_scratch9 c v2 v5 v8 c16_i32_729) Q) := by
  rw [k0_part29_eq_skeleton]; unfold k0_part29_skel
  simp only [semSignalWord, semWaitWord, Prog.lift, Prog.bind_op, Prog.bind_ret, Prog.pure_eq_ret]
  iintro HS Hk
  iapply (st_recv (.yr 1 2) rfl (fun h => nomatch h) hl (credit_o _ _)) $$ HS
  iintro ⟨Hp, HS⟩
  iapply (st_pass 1 2 (oAt_congr (off14 c 2 1) _ _) (oAt_congr (off14 c 2 1) _ _) (dev27 c _) rfl rfl) $$ [HS Hp]
  · isplitl [HS]; · iexact HS
    iexact Hp
  iintro HS
  iapply wp_done
  iapply Hk
  iexact HS

/-- A piece arrives along `y`. -/
theorem part25 {v2 : BitVec 32} {v5 : BitVec 32} {v8 : BitVec 32} {v753 : BitVec 32} {v754 : BitVec 32} {c0_i32_623 : BitVec 32} (hl : ∀ p ∈ l, lvl (.yr 0 0) < lvl p.2.1) {Q : (PUnit) → sProp 𝕄} :
    iprop(St m K c l (.yr 0 2 :: L) D)
      ⊢ iprop((∀ v, copyPay m c (.yr 0 2) ∗ St m K c l L (.yr 0 2 :: D) -∗ Q v)
        -∗ Wp c (k0_part25 aM h0 oM h1 xM h2 sM h3 rM h4 cc0_scratch3 cc0_scratch4 cc0_scratch5 cc0_scratch6 cc0_scratch7 cc0_scratch8 cc0_scratch9 c v2 v5 v8 v753 v754 c0_i32_623) Q) := by
  rw [k0_part25_eq_skeleton]; unfold k0_part25_skel
  simp only [semSignalWord, semWaitWord, Prog.lift, Prog.bind_op, Prog.bind_ret, Prog.pure_eq_ret]
  iintro HS Hk
  iapply (st_recv (.yr 0 2) rfl (fun h => nomatch h) hl (credit_o _ _)) $$ HS
  iintro ⟨Hp, HS⟩
  iapply wp_done
  iapply Hk
  isplitl [Hp]; · iexact Hp
  iexact HS

/-- It goes on along `x`, and the second half's first piece arrives. -/
theorem part26 {v2 : BitVec 32} {v5 : BitVec 32} {v8 : BitVec 32} (hl : ∀ p ∈ l, lvl (.yr 0 0) < lvl p.2.1) {Q : (BitVec 32) → sProp 𝕄} :
    iprop(St m K c (tX 0 3 :: l) (.yr 1 0 :: L) D ∗ copyPay m c (.yr 0 2))
      ⊢ iprop((∀ v, copyPay m c (.yr 1 0) ∗ St m K c l (L ++ [.xs 0 3]) (.yr 1 0 :: D) -∗ Q v)
        -∗ Wp c (k0_part26 aM h0 oM h1 xM h2 sM h3 rM h4 cc0_scratch3 cc0_scratch4 cc0_scratch5 cc0_scratch6 cc0_scratch7 cc0_scratch8 cc0_scratch9 c v2 v5 v8) Q) := by
  rw [k0_part26_eq_skeleton]; unfold k0_part26_skel
  simp only [semSignalWord, semWaitWord, Prog.lift, Prog.bind_op, Prog.bind_ret, Prog.pure_eq_ret]
  iintro ⟨HS, Hp⟩ Hk
  iapply (st_pass 0 2 (oAt_congr (off14 c 2 0) _ _) (oAt_congr (off14 c 2 0) _ _) (dev24 c _) rfl rfl) $$ [HS Hp]
  · isplitl [HS]; · iexact HS
    iexact Hp
  iintro HS
  rw [List.cons_append]
  iapply (st_recv (.yr 1 0) rfl (fun h => nomatch h) hl (credit_o _ _)) $$ HS
  iintro ⟨Hp, HS⟩
  iapply wp_done
  iapply Hk
  isplitl [Hp]; · iexact Hp
  iexact HS

/-- It goes on along `x`. -/
theorem part27 {v2 : BitVec 32} {v5 : BitVec 32} {v8 : BitVec 32} {v817 : BitVec 32} {Q : (PUnit) → sProp 𝕄} :
    iprop(St m K c (tX 1 1 :: l) L D ∗ copyPay m c (.yr 1 0))
      ⊢ iprop((∀ v, St m K c l (L ++ [.xs 1 1]) D -∗ Q v)
        -∗ Wp c (k0_part27 aM h0 oM h1 xM h2 sM h3 rM h4 cc0_scratch3 cc0_scratch4 cc0_scratch5 cc0_scratch6 cc0_scratch7 cc0_scratch8 cc0_scratch9 c v2 v5 v8 v817) Q) := by
  rw [k0_part27_eq_skeleton]; unfold k0_part27_skel
  simp only [semSignalWord, semWaitWord, Prog.lift, Prog.bind_op, Prog.bind_ret, Prog.pure_eq_ret]
  iintro ⟨HS, Hp⟩ Hk
  iapply (st_pass 1 0 (oAt_congr (off14 c 0 1) _ _) (oAt_congr (off14 c 0 1) _ _) (dev25 c _) rfl rfl) $$ [HS Hp]
  · isplitl [HS]; · iexact HS
    iexact Hp
  iintro HS
  iapply wp_done
  iapply Hk
  iexact HS

end Cert.AllSum

end
-- ==== Proof.Mesh.PartsC.lean ====
/-
# The last part of the body: the waits

The pieces that come along `x` arrive, then every copy's source comes back. Each wait adds its piece to those at hand.
-/
module

public import proofs.«01_k».proof.Proof.Mesh.State

@[expose] public section

noncomputable section

namespace Cert.AllSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : Dev nD × Cell → ℕ} {c : Dev nD} {l : List Talk} {L D : List Cell}
variable {h0 : aM.IsWhole} {h1 : oM.IsWhole} {h2 : xM.IsWhole} {h3 : sM.IsWhole} {h4 : rM.IsWhole}

variable {G : List Cell}

/-- Waits. -/
theorem part30 {v2 : BitVec 32} {v5 : BitVec 32} {v8 : BitVec 32} {v910 : BitVec 32} {v915 : BitVec 1} {v916 : BitVec 32} {Q : (PUnit) → sProp 𝕄} :
    iprop(St m K c [] (.xr 0 0 :: L) D ∗ Lst (copyPay m c) G)
      ⊢ iprop((∀ v, St m K c [] L (.xr 0 0 :: D) ∗ Lst (copyPay m c) (.xr 0 0 :: G) -∗ Q v)
        -∗ Wp c (k0_part30 aM h0 oM h1 xM h2 sM h3 rM h4 cc0_scratch3 cc0_scratch4 cc0_scratch5 cc0_scratch6 cc0_scratch7 cc0_scratch8 cc0_scratch9 c v2 v5 v8 v910 v915 v916) Q) := by
  rw [k0_part30_eq_skeleton]; unfold k0_part30_skel
  simp only [semSignalWord, semWaitWord, Prog.lift, Prog.bind_op, Prog.bind_ret, Prog.pure_eq_ret]
  iintro ⟨HS, HG⟩ Hk
  iapply (st_keep (.xr 0 0) rfl (fun h => nomatch h) (fun _ h => absurd h List.not_mem_nil) (credit_o _ _)) $$ [HS HG]
  · isplitl [HS]; · iexact HS
    iexact HG
  iintro ⟨HS, HG⟩
  iapply wp_done
  iapply Hk
  isplitl [HS]; · iexact HS
  iexact HG

/-- Waits. -/
theorem part31 {v2 : BitVec 32} {v5 : BitVec 32} {v8 : BitVec 32} {Q : (Σ' (v978 : BitVec 32), BitVec 32) → sProp 𝕄} :
    iprop(St m K c [] (.xr 0 1 :: L) D ∗ Lst (copyPay m c) G)
      ⊢ iprop((∀ v, St m K c [] L (.xr 0 1 :: D) ∗ Lst (copyPay m c) (.xr 0 1 :: G) -∗ Q v)
        -∗ Wp c (k0_part31 aM h0 oM h1 xM h2 sM h3 rM h4 cc0_scratch3 cc0_scratch4 cc0_scratch5 cc0_scratch6 cc0_scratch7 cc0_scratch8 cc0_scratch9 c v2 v5 v8) Q) := by
  rw [k0_part31_eq_skeleton]; unfold k0_part31_skel
  simp only [semSignalWord, semWaitWord, Prog.lift, Prog.bind_op, Prog.bind_ret, Prog.pure_eq_ret]
  iintro ⟨HS, HG⟩ Hk
  iapply (st_keep (.xr 0 1) rfl (fun h => nomatch h) (fun _ h => absurd h List.not_mem_nil) (credit_o _ _)) $$ [HS HG]
  · isplitl [HS]; · iexact HS
    iexact HG
  iintro ⟨HS, HG⟩
  iapply wp_done
  iapply Hk
  isplitl [HS]; · iexact HS
  iexact HG

/-- Waits. -/
theorem part32 {v2 : BitVec 32} {v5 : BitVec 32} {v8 : BitVec 32} {v978 : BitVec 32} {v979 : BitVec 32} {Q : (PUnit) → sProp 𝕄} :
    iprop(St m K c [] (.xr 0 2 :: L) D ∗ Lst (copyPay m c) G)
      ⊢ iprop((∀ v, St m K c [] L (.xr 0 2 :: D) ∗ Lst (copyPay m c) (.xr 0 2 :: G) -∗ Q v)
        -∗ Wp c (k0_part32 aM h0 oM h1 xM h2 sM h3 rM h4 cc0_scratch3 cc0_scratch4 cc0_scratch5 cc0_scratch6 cc0_scratch7 cc0_scratch8 cc0_scratch9 c v2 v5 v8 v978 v979) Q) := by
  rw [k0_part32_eq_skeleton]; unfold k0_part32_skel
  simp only [semSignalWord, semWaitWord, Prog.lift, Prog.bind_op, Prog.bind_ret, Prog.pure_eq_ret]
  iintro ⟨HS, HG⟩ Hk
  iapply (st_keep (.xr 0 2) rfl (fun h => nomatch h) (fun _ h => absurd h List.not_mem_nil) (credit_o _ _)) $$ [HS HG]
  · isplitl [HS]; · iexact HS
    iexact HG
  iintro ⟨HS, HG⟩
  iapply wp_done
  iapply Hk
  isplitl [HS]; · iexact HS
  iexact HG

/-- Waits. -/
theorem part33 {v2 : BitVec 32} {v5 : BitVec 32} {v8 : BitVec 32} {Q : (Σ' (v1042 : BitVec 32), BitVec 32) → sProp 𝕄} :
    iprop(St m K c [] (.xr 0 3 :: .xr 1 0 :: L) D ∗ Lst (copyPay m c) G)
      ⊢ iprop((∀ v, St m K c [] L (.xr 1 0 :: .xr 0 3 :: D) ∗ Lst (copyPay m c) (.xr 1 0 :: .xr 0 3 :: G) -∗ Q v)
        -∗ Wp c (k0_part33 aM h0 oM h1 xM h2 sM h3 rM h4 cc0_scratch3 cc0_scratch4 cc0_scratch5 cc0_scratch6 cc0_scratch7 cc0_scratch8 cc0_scratch9 c v2 v5 v8) Q) := by
  rw [k0_part33_eq_skeleton]; unfold k0_part33_skel
  simp only [semSignalWord, semWaitWord, Prog.lift, Prog.bind_op, Prog.bind_ret, Prog.pure_eq_ret]
  iintro ⟨HS, HG⟩ Hk
  iapply (st_keep (.xr 0 3) rfl (fun h => nomatch h) (fun _ h => absurd h List.not_mem_nil) (credit_o _ _)) $$ [HS HG]
  · isplitl [HS]; · iexact HS
    iexact HG
  iintro ⟨HS, HG⟩
  iapply (st_keep (.xr 1 0) rfl (fun h => nomatch h) (fun _ h => absurd h List.not_mem_nil) (credit_o _ _)) $$ [HS HG]
  · isplitl [HS]; · iexact HS
    iexact HG
  iintro ⟨HS, HG⟩
  iapply wp_done
  iapply Hk
  isplitl [HS]; · iexact HS
  iexact HG

/-- Waits. -/
theorem part34 {v2 : BitVec 32} {v5 : BitVec 32} {v8 : BitVec 32} {v1042 : BitVec 32} {v1044 : BitVec 32} {Q : (Σ' (v1072 : BitVec 32) (v1077 : BitVec 1), BitVec 32) → sProp 𝕄} :
    iprop(St m K c [] (.xr 1 1 :: L) D ∗ Lst (copyPay m c) G)
      ⊢ iprop((∀ v, St m K c [] L (.xr 1 1 :: D) ∗ Lst (copyPay m c) (.xr 1 1 :: G) -∗ Q v)
        -∗ Wp c (k0_part34 aM h0 oM h1 xM h2 sM h3 rM h4 cc0_scratch3 cc0_scratch4 cc0_scratch5 cc0_scratch6 cc0_scratch7 cc0_scratch8 cc0_scratch9 c v2 v5 v8 v1042 v1044) Q) := by
  rw [k0_part34_eq_skeleton]; unfold k0_part34_skel
  simp only [semSignalWord, semWaitWord, Prog.lift, Prog.bind_op, Prog.bind_ret, Prog.pure_eq_ret]
  iintro ⟨HS, HG⟩ Hk
  iapply (st_keep (.xr 1 1) rfl (fun h => nomatch h) (fun _ h => absurd h List.not_mem_nil) (credit_o _ _)) $$ [HS HG]
  · isplitl [HS]; · iexact HS
    iexact HG
  iintro ⟨HS, HG⟩
  iapply wp_done
  iapply Hk
  isplitl [HS]; · iexact HS
  iexact HG

/-- Waits. -/
theorem part35 {v2 : BitVec 32} {v5 : BitVec 32} {v8 : BitVec 32} {v1072 : BitVec 32} {v1077 : BitVec 1} {v1078 : BitVec 32} {Q : (PUnit) → sProp 𝕄} :
    iprop(St m K c [] (.xr 1 2 :: L) D ∗ Lst (copyPay m c) G)
      ⊢ iprop((∀ v, St m K c [] L (.xr 1 2 :: D) ∗ Lst (copyPay m c) (.xr 1 2 :: G) -∗ Q v)
        -∗ Wp c (k0_part35 aM h0 oM h1 xM h2 sM h3 rM h4 cc0_scratch3 cc0_scratch4 cc0_scratch5 cc0_scratch6 cc0_scratch7 cc0_scratch8 cc0_scratch9 c v2 v5 v8 v1072 v1077 v1078) Q) := by
  rw [k0_part35_eq_skeleton]; unfold k0_part35_skel
  simp only [semSignalWord, semWaitWord, Prog.lift, Prog.bind_op, Prog.bind_ret, Prog.pure_eq_ret]
  iintro ⟨HS, HG⟩ Hk
  iapply (st_keep (.xr 1 2) rfl (fun h => nomatch h) (fun _ h => absurd h List.not_mem_nil) (credit_o _ _)) $$ [HS HG]
  · isplitl [HS]; · iexact HS
    iexact HG
  iintro ⟨HS, HG⟩
  iapply wp_done
  iapply Hk
  isplitl [HS]; · iexact HS
  iexact HG

/-- Waits. -/
theorem part36 {v2 : BitVec 32} {v5 : BitVec 32} {v8 : BitVec 32} {Q : (PUnit) → sProp 𝕄} :
    iprop(St m K c [] (.xr 1 3 :: .zs 0 0 :: .zs 0 1 :: L) D ∗ Lst (copyPay m c) G)
      ⊢ iprop((∀ v, St m K c [] L (.zs 0 1 :: .zs 0 0 :: .xr 1 3 :: D) ∗ Lst (copyPay m c) (.zs 0 1 :: .zs 0 0 :: .xr 1 3 :: G) -∗ Q v)
        -∗ Wp c (k0_part36 aM h0 oM h1 xM h2 sM h3 rM h4 cc0_scratch3 cc0_scratch4 cc0_scratch5 cc0_scratch6 cc0_scratch7 cc0_scratch8 cc0_scratch9 c v2 v5 v8) Q) := by
  rw [k0_part36_eq_skeleton]; unfold k0_part36_skel
  simp only [semSignalWord, semWaitWord, Prog.lift, Prog.bind_op, Prog.bind_ret, Prog.pure_eq_ret]
  iintro ⟨HS, HG⟩ Hk
  iapply (st_keep (.xr 1 3) rfl (fun h => nomatch h) (fun _ h => absurd h List.not_mem_nil) (credit_o _ _)) $$ [HS HG]
  · isplitl [HS]; · iexact HS
    iexact HG
  iintro ⟨HS, HG⟩
  iapply (st_keep (.zs 0 0) rfl (fun h => nomatch h) (fun _ h => absurd h List.not_mem_nil) (credit_s _ _)) $$ [HS HG]
  · isplitl [HS]; · iexact HS
    iexact HG
  iintro ⟨HS, HG⟩
  iapply (st_keep (.zs 0 1) rfl (fun h => nomatch h) (fun _ h => absurd h List.not_mem_nil) (credit_s _ _)) $$ [HS HG]
  · isplitl [HS]; · iexact HS
    iexact HG
  iintro ⟨HS, HG⟩
  iapply wp_done
  iapply Hk
  isplitl [HS]; · iexact HS
  iexact HG

/-- Waits. -/
theorem part37 {Q : (PUnit) → sProp 𝕄} :
    iprop(St m K c [] (.zs 0 2 :: .zs 1 0 :: .zs 1 1 :: L) D ∗ Lst (copyPay m c) G)
      ⊢ iprop((∀ v, St m K c [] L (.zs 1 1 :: .zs 1 0 :: .zs 0 2 :: D) ∗ Lst (copyPay m c) (.zs 1 1 :: .zs 1 0 :: .zs 0 2 :: G) -∗ Q v)
        -∗ Wp c (k0_part37 aM h0 oM h1 xM h2 sM h3 rM h4 cc0_scratch3 cc0_scratch4 cc0_scratch5 cc0_scratch6 cc0_scratch7 cc0_scratch8 cc0_scratch9 c ) Q) := by
  rw [k0_part37_eq_skeleton]; unfold k0_part37_skel
  simp only [semSignalWord, semWaitWord, Prog.lift, Prog.bind_op, Prog.bind_ret, Prog.pure_eq_ret]
  iintro ⟨HS, HG⟩ Hk
  iapply (st_keep (.zs 0 2) rfl (fun h => nomatch h) (fun _ h => absurd h List.not_mem_nil) (credit_s _ _)) $$ [HS HG]
  · isplitl [HS]; · iexact HS
    iexact HG
  iintro ⟨HS, HG⟩
  iapply (st_keep (.zs 1 0) rfl (fun h => nomatch h) (fun _ h => absurd h List.not_mem_nil) (credit_s _ _)) $$ [HS HG]
  · isplitl [HS]; · iexact HS
    iexact HG
  iintro ⟨HS, HG⟩
  iapply (st_keep (.zs 1 1) rfl (fun h => nomatch h) (fun _ h => absurd h List.not_mem_nil) (credit_s _ _)) $$ [HS HG]
  · isplitl [HS]; · iexact HS
    iexact HG
  iintro ⟨HS, HG⟩
  iapply wp_done
  iapply Hk
  isplitl [HS]; · iexact HS
  iexact HG

/-- Waits. -/
theorem part38 {Q : (PUnit) → sProp 𝕄} :
    iprop(St m K c [] (.zs 1 2 :: .ys 0 0 :: .ys 0 1 :: .ys 0 2 :: L) D ∗ Lst (copyPay m c) G)
      ⊢ iprop((∀ v, St m K c [] L (.ys 0 2 :: .ys 0 1 :: .ys 0 0 :: .zs 1 2 :: D) ∗ Lst (copyPay m c) (.ys 0 2 :: .ys 0 1 :: .ys 0 0 :: .zs 1 2 :: G) -∗ Q v)
        -∗ Wp c (k0_part38 aM h0 oM h1 xM h2 sM h3 rM h4 cc0_scratch3 cc0_scratch4 cc0_scratch5 cc0_scratch6 cc0_scratch7 cc0_scratch8 cc0_scratch9 c ) Q) := by
  rw [k0_part38_eq_skeleton]; unfold k0_part38_skel
  simp only [semSignalWord, semWaitWord, Prog.lift, Prog.bind_op, Prog.bind_ret, Prog.pure_eq_ret]
  iintro ⟨HS, HG⟩ Hk
  iapply (st_keep (.zs 1 2) rfl (fun h => nomatch h) (fun _ h => absurd h List.not_mem_nil) (credit_s _ _)) $$ [HS HG]
  · isplitl [HS]; · iexact HS
    iexact HG
  iintro ⟨HS, HG⟩
  iapply (st_keep (.ys 0 0) rfl (fun h => nomatch h) (fun _ h => absurd h List.not_mem_nil) (credit_o _ _)) $$ [HS HG]
  · isplitl [HS]; · iexact HS
    iexact HG
  iintro ⟨HS, HG⟩
  iapply (st_keep (.ys 0 1) rfl (fun h => nomatch h) (fun _ h => absurd h List.not_mem_nil) (credit_o _ _)) $$ [HS HG]
  · isplitl [HS]; · iexact HS
    iexact HG
  iintro ⟨HS, HG⟩
  iapply (st_keep (.ys 0 2) rfl (fun h => nomatch h) (fun _ h => absurd h List.not_mem_nil) (credit_o _ _)) $$ [HS HG]
  · isplitl [HS]; · iexact HS
    iexact HG
  iintro ⟨HS, HG⟩
  iapply wp_done
  iapply Hk
  isplitl [HS]; · iexact HS
  iexact HG

/-- Waits. -/
theorem part39 {Q : (PUnit) → sProp 𝕄} :
    iprop(St m K c [] (.xs 0 0 :: .ys 1 0 :: .ys 1 1 :: .ys 1 2 :: .xs 1 0 :: L) D ∗ Lst (copyPay m c) G)
      ⊢ iprop((∀ v, St m K c [] L (.xs 1 0 :: .ys 1 2 :: .ys 1 1 :: .ys 1 0 :: .xs 0 0 :: D) ∗ Lst (copyPay m c) (.xs 1 0 :: .ys 1 2 :: .ys 1 1 :: .ys 1 0 :: .xs 0 0 :: G) -∗ Q v)
        -∗ Wp c (k0_part39 aM h0 oM h1 xM h2 sM h3 rM h4 cc0_scratch3 cc0_scratch4 cc0_scratch5 cc0_scratch6 cc0_scratch7 cc0_scratch8 cc0_scratch9 c ) Q) := by
  rw [k0_part39_eq_skeleton]; unfold k0_part39_skel
  simp only [semSignalWord, semWaitWord, Prog.lift, Prog.bind_op, Prog.bind_ret, Prog.pure_eq_ret]
  iintro ⟨HS, HG⟩ Hk
  iapply (st_keep (.xs 0 0) rfl (fun h => nomatch h) (fun _ h => absurd h List.not_mem_nil) (credit_o _ _)) $$ [HS HG]
  · isplitl [HS]; · iexact HS
    iexact HG
  iintro ⟨HS, HG⟩
  iapply (st_keep (.ys 1 0) rfl (fun h => nomatch h) (fun _ h => absurd h List.not_mem_nil) (credit_o _ _)) $$ [HS HG]
  · isplitl [HS]; · iexact HS
    iexact HG
  iintro ⟨HS, HG⟩
  iapply (st_keep (.ys 1 1) rfl (fun h => nomatch h) (fun _ h => absurd h List.not_mem_nil) (credit_o _ _)) $$ [HS HG]
  · isplitl [HS]; · iexact HS
    iexact HG
  iintro ⟨HS, HG⟩
  iapply (st_keep (.ys 1 2) rfl (fun h => nomatch h) (fun _ h => absurd h List.not_mem_nil) (credit_o _ _)) $$ [HS HG]
  · isplitl [HS]; · iexact HS
    iexact HG
  iintro ⟨HS, HG⟩
  iapply (st_keep (.xs 1 0) rfl (fun h => nomatch h) (fun _ h => absurd h List.not_mem_nil) (credit_o _ _)) $$ [HS HG]
  · isplitl [HS]; · iexact HS
    iexact HG
  iintro ⟨HS, HG⟩
  iapply wp_done
  iapply Hk
  isplitl [HS]; · iexact HS
  iexact HG

/-- Waits. -/
theorem part40 {Q : (PUnit) → sProp 𝕄} :
    iprop(St m K c [] (.xs 0 1 :: .xs 0 2 :: .xs 0 3 :: .xs 1 1 :: .xs 1 2 :: L) D ∗ Lst (copyPay m c) G)
      ⊢ iprop((∀ v, St m K c [] L (.xs 1 2 :: .xs 1 1 :: .xs 0 3 :: .xs 0 2 :: .xs 0 1 :: D) ∗ Lst (copyPay m c) (.xs 1 2 :: .xs 1 1 :: .xs 0 3 :: .xs 0 2 :: .xs 0 1 :: G) -∗ Q v)
        -∗ Wp c (k0_part40 aM h0 oM h1 xM h2 sM h3 rM h4 cc0_scratch3 cc0_scratch4 cc0_scratch5 cc0_scratch6 cc0_scratch7 cc0_scratch8 cc0_scratch9 c ) Q) := by
  rw [k0_part40_eq_skeleton]; unfold k0_part40_skel
  simp only [semSignalWord, semWaitWord, Prog.lift, Prog.bind_op, Prog.bind_ret, Prog.pure_eq_ret]
  iintro ⟨HS, HG⟩ Hk
  iapply (st_keep (.xs 0 1) rfl (fun h => nomatch h) (fun _ h => absurd h List.not_mem_nil) (credit_o _ _)) $$ [HS HG]
  · isplitl [HS]; · iexact HS
    iexact HG
  iintro ⟨HS, HG⟩
  iapply (st_keep (.xs 0 2) rfl (fun h => nomatch h) (fun _ h => absurd h List.not_mem_nil) (credit_o _ _)) $$ [HS HG]
  · isplitl [HS]; · iexact HS
    iexact HG
  iintro ⟨HS, HG⟩
  iapply (st_keep (.xs 0 3) rfl (fun h => nomatch h) (fun _ h => absurd h List.not_mem_nil) (credit_o _ _)) $$ [HS HG]
  · isplitl [HS]; · iexact HS
    iexact HG
  iintro ⟨HS, HG⟩
  iapply (st_keep (.xs 1 1) rfl (fun h => nomatch h) (fun _ h => absurd h List.not_mem_nil) (credit_o _ _)) $$ [HS HG]
  · isplitl [HS]; · iexact HS
    iexact HG
  iintro ⟨HS, HG⟩
  iapply (st_keep (.xs 1 2) rfl (fun h => nomatch h) (fun _ h => absurd h List.not_mem_nil) (credit_o _ _)) $$ [HS HG]
  · isplitl [HS]; · iexact HS
    iexact HG
  iintro ⟨HS, HG⟩
  iapply wp_done
  iapply Hk
  isplitl [HS]; · iexact HS
  iexact HG

end Cert.AllSum

end
-- ==== Proof.Mesh.Body.lean ====
/-
# The body, part by part

A device starts with its buffers, the semaphores of its own copies, the credits of what will arrive, and its dues. It ends
with nothing due, every semaphore done, and its staged result whole.
-/
module

public import proofs.«01_k».proof.Proof.Mesh.Entry
public import proofs.«01_k».proof.Proof.Mesh.PartsA
public import proofs.«01_k».proof.Proof.Mesh.PartsB
public import proofs.«01_k».proof.Proof.Mesh.PartsC

@[expose] public section

noncomputable section

namespace Cert.AllSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : Dev nD × Cell → ℕ} {c : Dev nD}
variable {h0 : aM.IsWhole} {h1 : oM.IsWhole} {h2 : xM.IsWhole} {h3 : sM.IsWhole} {h4 : rM.IsWhole}

/-- All dues, in order. -/
abbrev dues : List Talk :=
  tB (zup 1) 0 :: tB (zup 2) 1 :: tB (zup 3) 2 :: tB (yup 1) 3 :: tB (yup 2) 4 :: tB (yup 3) 5 :: tB xsw 6 :: copies

variable (m K) in
/-- What the body starts from. -/
def Start (c : Dev nD) : sProp 𝕄 :=
  iprop(Know m K ∗ Due c dues ∗ Wait c .bar ∗ Lst (Wait c) receives ∗ Free c .stage ∗ Lst (Free c) sends
    ∗ pt c (aV (cy c) (cx c)) fullShare (m ((c : Thread nD τ).loc main_arg0)) ∗ ptE c oM ∗ ptE c xM ∗ ptE c sM ∗ ptE c rM)

variable (m) in
/-- What the body ends with. -/
def End (c : Dev nD) : sProp 𝕄 :=
  iprop((bigSep Finset.univ fun x => Done c x) ∗ Due c [] ∗ pt c (aV (cy c) (cx c)) fullShare (m ((c : Thread nD τ).loc main_arg0))
    ∗ pt c oM fullShare (oF m (cz c)) ∗ ptE c xM ∗ ptE c sM ∗ ptE c rM)

/-- The semaphores in the reverse order of their waits. -/
abbrev finished : List Cell :=
  [.xs 1 3, .xs 1 2, .xs 1 1, .xs 0 3, .xs 0 2, .xs 0 1, .xs 1 0, .ys 1 2, .ys 1 1, .ys 1 0, .xs 0 0, .ys 0 2, .ys 0 1, .ys 0 0, .zs 1 2, .zs 1 1, .zs 1 0, .zs 0 2, .zs 0 1, .zs 0 0,
    .xr 1 3, .xr 1 2, .xr 1 1, .xr 1 0, .xr 0 3, .xr 0 2, .xr 0 1, .xr 0 0, .yr 1 2, .yr 1 1, .yr 1 0, .yr 0 2, .yr 0 1, .yr 0 0, .zr 1 2, .zr 1 1, .zr 1 0, .zr 0 2, .zr 0 1, .zr 0 0, .stage, .bar]

/-- With nothing left to wait for, every semaphore is done. -/
theorem st_end : St m K c [] [] finished ⊢ iprop((bigSep Finset.univ fun x => Done c x) ∗ Due c []) := by
  rw [all_lst (fun x => (Done c x : sProp 𝕄)) finished (by decide +kernel) (by decide +kernel)]
  unfold St
  iintro ⟨-, HO, -, -, HD⟩
  isplitl [HD]; · iexact HD
  iexact HO

/-- Entering the copies. -/
theorem st_start : iprop(Know m K ∗ Due c copies ∗ Lst (Ready c) copies ∗ Lst (Wait c) receives ∗ Done c .stage ∗ Done c .bar)
    ⊢ St m K c copies receives [.stage, .bar] := by
  unfold St
  rw [lst_cons (fun x => Done c x), lst_cons (fun x => Done c x)]
  iintro ⟨HK, HO, HR, HL, Hs, Hb⟩
  isplitl [HK]; · iexact HK
  isplitl [HO]; · iexact HO
  isplitl [HR]; · iexact HR
  isplitl [HL]; · iexact HL
  isplitl [Hs]; · iexact Hs
  isplitl [Hb]; · iexact Hb
  unfold Lst
  iempintro

/-- A program of two parts. -/
theorem wp_seq {α β : Type} (p : Prog (TpuEff nD τ sig (Elt F) Λ₀ .tc) α) (k : α → Prog (TpuEff nD τ sig (Elt F) Λ₀ .tc) β) (Q : β → sProp 𝕄) :
    (Wp c (p >>= k) Q : sProp 𝕄) = Wp c p fun a => Wp c (k a) Q := wp_bind _ _ _ _ _ _

theorem own_r (r : Fin 2) : (pR c (r, 0) : sProp 𝕄) = ptE c (rV r (cz c)) := by
  have h : cz c + 0 = cz c := Fin.add_zero _
  unfold pR
  rw [h]
theorem own_o (r : Fin 2) : (pO c (0, 0, r) : sProp 𝕄) = ptE c (oV (cy c) (cx c) r) := by
  have h : cx c + 0 = cx c := Fin.add_zero _
  unfold pO
  rw [h, back0]

/-- The entry state, from its pieces. -/
theorem pre_intro {l b : List Talk} : iprop(Know m K ∗ Due c l ∗ Lst (fun p : Talk => barPay (p.1 c) p.2.2) b) ⊢ Pre m K c l b := .rfl
/-- The copied slice, with the piece it was copied from. -/
theorem stage_pay : copyPay m c .stage
    ⊢ iprop(pt c xM fullShare (xF m c) ∗ pt c (aV (cy c) (cx c)) fullShare (m ((c : Thread nD τ).loc main_arg0))) := .rfl
theorem lst_none : ⊢ Lst (copyPay m c) [] := .rfl
theorem s_six : (ptE c sM : sProp 𝕄) ⊢ iprop(ptE c (sV 0 0) ∗ ptE c (sV 0 1) ∗ ptE c (sV 0 2) ∗ ptE c (sV 1 0) ∗ ptE c (sV 1 1) ∗ ptE c (sV 1 2)) := by
  refine s_any.trans ?_
  simp only [lst_cons]
  iintro ⟨a, b, d, e, f, g, -⟩
  isplitl [a]; · iexact a
  isplitl [b]; · iexact b
  isplitl [d]; · iexact d
  isplitl [e]; · iexact e
  isplitl [f]; · iexact f
  iexact g

set_option maxHeartbeats 4000000 in
/-- The body runs from its start to its end. -/
theorem body {Q : PUnit → sProp 𝕄} : Start m K c ⊢ iprop((End m c -∗ Q ⟨⟩)
    -∗ Wp c (cc0_body aM h0 oM h1 xM h2 sM h3 rM h4 cc0_scratch3 cc0_scratch4 cc0_scratch5 cc0_scratch6 cc0_scratch7 cc0_scratch8 cc0_scratch9) Q) := by
  rw [cc0_body_eq_skeleton]
  unfold cc0_body_skel Start
  iintro ⟨#HK, HO, Hbar, HL, Hfs, HF, Ha, Ho, HX, Hsb, Hrb⟩ Hk
  ihave ⟨⟨R0, R1⟩, ⟨O0, O1⟩, HB⟩ := (entry (c := c)) $$ [Ho Hrb]
  · isplitl [Ho]; · iexact Ho
    iexact Hrb
  ihave R0 := (Entails.of_eq (own_r 0)) $$ R0
  ihave R1 := (Entails.of_eq (own_r 1)) $$ R1
  ihave O0 := (Entails.of_eq (own_o 0)) $$ O0
  ihave O1 := (Entails.of_eq (own_o 1)) $$ O1
  ihave HP := (pre_intro (m := m) (K := K) (c := c) (l := dues) (b := bars)) $$ [HO HB]
  · isplitr; · iexact HK
    isplitl [HO]; · iexact HO
    iexact HB
  rw [wp_seq]
  iapply (part1 (m := m) (K := K)) $$ [Hfs Ha HX HP]
  · isplitr; · iexact HK
    isplitl [Hfs]; · iexact Hfs
    isplitl [Ha]; · iexact Ha
    isplitl [HX]; · iexact HX
    iexact HP
  iintro %v2 %v5 %v8 %v11 %v32 %w ⟨Hws, HP⟩
  dsimp only
  rw [wp_seq]
  iapply (part2) $$ [HP]
  · iexact HP
  iintro %v HP
  obtain ⟨v66, c4_i32_40⟩ := v
  dsimp only
  rw [wp_seq]
  iapply (part3) $$ [HP]
  · iexact HP
  iintro %v HP
  obtain ⟨v100, c4_i32_64⟩ := v
  dsimp only
  rw [wp_seq]
  iapply (part4 (l := copies) (by decide)) $$ [HP Hbar Hws]
  · isplitl [HP]; · iexact HP
    isplitl [Hbar]; · iexact Hbar
    iexact Hws
  iintro %v ⟨HO, HT, Hdb, Hst, Hds⟩
  obtain ⟨v128, v129, v130, c0_i32_88⟩ := v
  dsimp only
  ihave HR := (ready (m := m) (c := c)) $$ [HF HT]
  · isplitl [HF]; · iexact HF
    iexact HT
  ihave HS := (st_start (m := m) (K := K) (c := c)) $$ [HO HR HL Hdb Hds]
  · isplitr; · iexact HK
    isplitl [HO]; · iexact HO
    isplitl [HR]; · iexact HR
    isplitl [HL]; · iexact HL
    isplitl [Hds]; · iexact Hds
    iexact Hdb
  ihave ⟨HX, Ha⟩ := (stage_pay (m := m) (c := c)) $$ Hst
  ihave ⟨s00, s01, s02, s10, s11, s12⟩ := (s_six (c := c)) $$ Hsb
  rw [wp_seq]
  iapply (part5) $$ [HS HX s00]
  · isplitl [HS]; · iexact HS
    isplitl [HX]; · iexact HX
    iexact s00
  iintro %v ⟨HS, HX⟩
  obtain ⟨v160, v161, c0_i32_113⟩ := v
  dsimp only
  simp only [List.cons_append, List.nil_append]
  rw [wp_seq]
  iapply (part6) $$ [HS HX s01]
  · isplitl [HS]; · iexact HS
    isplitl [HX]; · iexact HX
    iexact s01
  iintro %v ⟨HS, HX⟩
  obtain ⟨v190, v192⟩ := v
  dsimp only
  simp only [List.cons_append, List.nil_append]
  rw [wp_seq]
  iapply (part7) $$ [HS HX s02]
  · isplitl [HS]; · iexact HS
    isplitl [HX]; · iexact HX
    iexact s02
  iintro ⟨HS, HX⟩
  simp only [List.cons_append, List.nil_append]
  rw [wp_seq]
  iapply (part8) $$ [HX R0 s10]
  · isplitl [HX]; · iexact HX
    isplitl [R0]; · iexact R0
    iexact s10
  iintro %v ⟨HX, R0, s10⟩
  rw [wp_seq]
  iapply (part9) $$ [HS HX s10 s11]
  · isplitl [HS]; · iexact HS
    isplitl [HX]; · iexact HX
    isplitl [s10]; · iexact s10
    iexact s11
  iintro %v ⟨HS, HX, s11⟩
  simp only [List.cons_append, List.nil_append]
  rw [wp_seq]
  iapply (part10) $$ [HS HX s11 s12]
  · isplitl [HS]; · iexact HS
    isplitl [HX]; · iexact HX
    isplitl [s11]; · iexact s11
    iexact s12
  iintro %v ⟨HS, HX, s12⟩
  obtain ⟨v304, v315, c1_i32_246⟩ := v
  dsimp only
  simp only [List.cons_append, List.nil_append]
  rw [wp_seq]
  iapply (part11) $$ [HS HX s12 R1]
  · isplitl [HS]; · iexact HS
    isplitl [HX]; · iexact HX
    isplitl [s12]; · iexact s12
    iexact R1
  iintro %v ⟨HS, HX, R1⟩
  simp only [List.cons_append, List.nil_append]
  rw [wp_seq]
  iapply (part12 (l := [tY 0 0, tY 0 1, tY 0 2, tX 0 0, tY 1 0, tY 1 1, tY 1 2, tX 1 0, tX 0 1, tX 0 2, tX 0 3, tX 1 1, tX 1 2, tX 1 3]) (by decide)) $$ [HS]
  · iexact HS
  iintro %v ⟨Hc, HS⟩
  rw [wp_seq]
  iapply (part13 (l := [tY 0 0, tY 0 1, tY 0 2, tX 0 0, tY 1 0, tY 1 1, tY 1 2, tX 1 0, tX 0 1, tX 0 2, tX 0 3, tX 1 1, tX 1 2, tX 1 3]) (by decide)) $$ [HS R0 Hc]
  · isplitl [HS]; · iexact HS
    isplitl [R0]; · iexact R0
    iexact Hc
  iintro ⟨HS, r0, r1, r2, r3⟩
  rw [wp_seq]
  iapply (part14) $$ [r0 r1 r2 r3 O0]
  · isplitl [r0]; · iexact r0
    isplitl [r1]; · iexact r1
    isplitl [r2]; · iexact r2
    isplitl [r3]; · iexact r3
    iexact O0
  iintro %v ⟨r0, r1, r2, r3, ⟨⟨q0, q1⟩, ⟨q2, q3⟩⟩⟩
  rw [wp_seq]
  iapply (part15) $$ [HS q0 q1]
  · isplitl [HS]; · iexact HS
    isplitl [q0]; · iexact q0
    iexact q1
  iintro %v HS
  obtain ⟨v469, v470, v471⟩ := v
  dsimp only
  simp only [List.cons_append, List.nil_append]
  rw [wp_seq]
  iapply (part16) $$ [HS q2 q3]
  · isplitl [HS]; · iexact HS
    isplitl [q2]; · iexact q2
    iexact q3
  iintro %v HS
  simp only [List.cons_append, List.nil_append]
  rw [wp_seq]
  iapply (part17 (l := [tY 1 0, tY 1 1, tY 1 2, tX 1 0, tX 0 1, tX 0 2, tX 0 3, tX 1 1, tX 1 2, tX 1 3]) (by decide)) $$ [HS]
  · iexact HS
  iintro %v ⟨Hc, HS⟩
  obtain ⟨v530, v531, v532, v533, v534⟩ := v
  dsimp only
  rw [wp_seq]
  iapply (part18 (l := [tY 1 0, tY 1 1, tY 1 2, tX 1 0, tX 0 1, tX 0 2, tX 0 3, tX 1 1, tX 1 2, tX 1 3]) (by decide)) $$ [HS]
  · iexact HS
  iintro %v ⟨Hd, HS⟩
  rw [wp_seq]
  iapply (part19 (l := [tY 1 0, tY 1 1, tY 1 2, tX 1 0, tX 0 1, tX 0 2, tX 0 3, tX 1 1, tX 1 2, tX 1 3]) (by decide)) $$ [HS R1 Hc Hd O1]
  · isplitl [HS]; · iexact HS
    isplitl [R1]; · iexact R1
    isplitl [Hc]; · iexact Hc
    isplitl [Hd]; · iexact Hd
    iexact O1
  iintro %v ⟨HS, t0, t1, t2, t3, ⟨⟨q0, q1⟩, ⟨q2, q3⟩⟩⟩
  obtain ⟨v590, c4_i32_493, v591⟩ := v
  dsimp only
  rw [wp_seq]
  iapply (part20) $$ [HS q0]
  · isplitl [HS]; · iexact HS
    iexact q0
  iintro %v HS
  obtain ⟨v623, v624⟩ := v
  dsimp only
  simp only [List.cons_append, List.nil_append]
  rw [wp_seq]
  iapply (part21) $$ [HS q1 q2]
  · isplitl [HS]; · iexact HS
    isplitl [q1]; · iexact q1
    iexact q2
  iintro %v HS
  simp only [List.cons_append, List.nil_append]
  rw [wp_seq]
  iapply (part22) $$ [HS q3]
  · isplitl [HS]; · iexact HS
    iexact q3
  iintro %v HS
  obtain ⟨v689, v690⟩ := v
  dsimp only
  simp only [List.cons_append, List.nil_append]
  rw [wp_seq]
  iapply (part23 (l := [tX 0 2, tX 0 3, tX 1 1, tX 1 2, tX 1 3]) (by decide)) $$ [HS]
  · iexact HS
  iintro %v HS
  obtain ⟨v724, c128_i32_595⟩ := v
  dsimp only
  simp only [List.cons_append, List.nil_append]
  rw [wp_seq]
  iapply (part24 (l := [tX 0 3, tX 1 1, tX 1 2, tX 1 3]) (by decide)) $$ [HS]
  · iexact HS
  iintro %v HS
  obtain ⟨v753, v754, c0_i32_623⟩ := v
  dsimp only
  simp only [List.cons_append, List.nil_append]
  rw [wp_seq]
  iapply (part25 (l := [tX 0 3, tX 1 1, tX 1 2, tX 1 3]) (by decide)) $$ [HS]
  · iexact HS
  iintro %v ⟨Hc, HS⟩
  rw [wp_seq]
  iapply (part26 (l := [tX 1 1, tX 1 2, tX 1 3]) (by decide)) $$ [HS Hc]
  · isplitl [HS]; · iexact HS
    iexact Hc
  iintro %v ⟨Hc, HS⟩
  simp only [List.cons_append, List.nil_append]
  rw [wp_seq]
  iapply (part27) $$ [HS Hc]
  · isplitl [HS]; · iexact HS
    iexact Hc
  iintro %v HS
  simp only [List.cons_append, List.nil_append]
  rw [wp_seq]
  iapply (part28 (l := [tX 1 3]) (by decide)) $$ [HS]
  · iexact HS
  iintro %v HS
  simp only [List.cons_append, List.nil_append]
  rw [wp_seq]
  iapply (part29 (l := []) (by decide)) $$ [HS]
  · iexact HS
  iintro %v HS
  obtain ⟨v910, v915, v916⟩ := v
  dsimp only
  simp only [List.cons_append, List.nil_append]
  ihave HG := (lst_none (m := m) (c := c))
  rw [wp_seq]
  iapply (part30) $$ [HS HG]
  · isplitl [HS]; · iexact HS
    iexact HG
  iintro %v ⟨HS, HG⟩
  rw [wp_seq]
  iapply (part31) $$ [HS HG]
  · isplitl [HS]; · iexact HS
    iexact HG
  iintro %v ⟨HS, HG⟩
  obtain ⟨v978, v979⟩ := v
  dsimp only
  rw [wp_seq]
  iapply (part32) $$ [HS HG]
  · isplitl [HS]; · iexact HS
    iexact HG
  iintro %v ⟨HS, HG⟩
  rw [wp_seq]
  iapply (part33) $$ [HS HG]
  · isplitl [HS]; · iexact HS
    iexact HG
  iintro %v ⟨HS, HG⟩
  obtain ⟨v1042, v1044⟩ := v
  dsimp only
  rw [wp_seq]
  iapply (part34) $$ [HS HG]
  · isplitl [HS]; · iexact HS
    iexact HG
  iintro %v ⟨HS, HG⟩
  obtain ⟨v1072, v1077, v1078⟩ := v
  dsimp only
  rw [wp_seq]
  iapply (part35) $$ [HS HG]
  · isplitl [HS]; · iexact HS
    iexact HG
  iintro %v ⟨HS, HG⟩
  rw [wp_seq]
  iapply (part36) $$ [HS HG]
  · isplitl [HS]; · iexact HS
    iexact HG
  iintro %v ⟨HS, HG⟩
  rw [wp_seq]
  iapply (part37) $$ [HS HG]
  · isplitl [HS]; · iexact HS
    iexact HG
  iintro %v ⟨HS, HG⟩
  rw [wp_seq]
  iapply (part38) $$ [HS HG]
  · isplitl [HS]; · iexact HS
    iexact HG
  iintro %v ⟨HS, HG⟩
  rw [wp_seq]
  iapply (part39) $$ [HS HG]
  · isplitl [HS]; · iexact HS
    iexact HG
  iintro %v ⟨HS, HG⟩
  rw [wp_seq]
  iapply (part40) $$ [HS HG]
  · isplitl [HS]; · iexact HS
    iexact HG
  iintro %v ⟨HS, HG⟩
  simp only [Prog.lift, Prog.bind_op, Prog.bind_ret, Prog.pure_eq_ret]
  iapply (st_keep (.xs 1 3) rfl (fun h => nomatch h) (fun _ h => absurd h List.not_mem_nil) (credit_o _ _)) $$ [HS HG]
  · isplitl [HS]; · iexact HS
    iexact HG
  iintro ⟨HS, HG⟩
  iapply wp_done
  iapply Hk
  unfold End
  ihave ⟨HD, HO⟩ := (st_end (m := m) (K := K) (c := c)) $$ HS
  ihave ⟨Ho, Hs⟩ := (whole_end (m := m) (c := c)) $$ HG
  ihave Hr := (whole_recv (m := m) (c := c)) $$ [r0 r1 r2 r3 t0 t1 t2 t3]
  · isplitl [r0 r1 r2 r3]
    · isplitl [r0]; · iexact r0
      isplitl [r1]; · iexact r1
      isplitl [r2]; · iexact r2
      iexact r3
    isplitl [t0]; · iexact t0
    isplitl [t1]; · iexact t1
    isplitl [t2]; · iexact t2
    iexact t3
  isplitl [HD]; · iexact HD
  isplitl [HO]; · iexact HO
  isplitl [Ha]; · iexact Ha
  isplitl [Ho]; · iexact Ho
  isplitl [HX]; · iexists _; iexact HX
  isplitl [Hs]; · iexists _; iexact Hs
  iexists _; iexact Hr

end Cert.AllSum

end
-- ==== Proof.Mesh.Deal.lean ====
/-
The start of the run.
The semaphores of all devices become the shared record of the exchange, each device gets the tokens of the duties it pays
and of its own copies, and the credits of what the others owe it.
-/
module

public import proofs.«01_k».proof.Proof.Mesh.Body

@[expose] public section

noncomputable section

namespace Cert.AllSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ}

/-! ## Lists of resources -/

theorem lst_append {ι : Type} (f : ι → sProp 𝕄) (l l' : List ι) : Lst f (l ++ l') ⊢ iprop(Lst f l ∗ Lst f l') := by
  induction l with
  | nil =>
    iintro H
    isplitr
    · unfold Lst; iempintro
    iexact H
  | cons x l ih =>
    rw [List.cons_append, lst_cons, lst_cons]
    iintro ⟨Hx, H⟩
    ihave ⟨H1, H2⟩ := ih $$ H
    isplitl [Hx H1]
    · isplitl [Hx]; · iexact Hx
      iexact H1
    iexact H2

theorem lst_imp {ι : Type} {f g : ι → sProp 𝕄} {l : List ι} (h : ∀ x ∈ l, f x ⊢ g x) : Lst f l ⊢ Lst g l := by
  induction l with
  | nil => exact .rfl
  | cons x l ih =>
    rw [lst_cons, lst_cons]
    exact BI.sep_mono (h x List.mem_cons_self) (ih fun y hy => h y (List.mem_cons_of_mem _ hy))

/-- Of one resource per value, those listed. -/
theorem lst_some {ι : Type} [Fintype ι] [DecidableEq ι] (f : ι → sProp 𝕄) (l : List ι) (hl : l.Nodup) : bigSep Finset.univ f ⊢ Lst f l := by
  rw [lst_bigSepL, ← bigSep_eq_bigSepL_of_eq (S := l.toFinset) l rfl hl f]
  exact BI.bigSep_subset (Finset.subset_univ _)

/-! ## The tokens -/

/-- The token of duty `d` of semaphore `x` of device `c`. -/
abbrev tok (c : Dev nD) (p : Cell × Fin 7) : sProp 𝕄 := dutyTok ER (kcell (c, p.1)) 0 p.2

/-- Each device passes the tokens of its semaphores on to the devices that pay the duties. -/
theorem deal (l : List Talk) : (bigSep Finset.univ fun c : Dev nD => Lst (tok c) (l.map fun p => p.2))
    ⊢ (bigSep Finset.univ fun c : Dev nD => toks c l : sProp 𝕄) := by
  induction l with
  | nil => exact .rfl
  | cons p l ih =>
    have e : (bigSep Finset.univ fun c : Dev nD => (tok c p.2 : sProp 𝕄)) = bigSep Finset.univ fun c : Dev nD => tok (p.1 c) p.2 :=
      bigSep_univ_equiv p.1 fun c : Dev nD => (tok c p.2 : sProp 𝕄)
    simp only [List.map_cons, lst_cons, toks]
    rw [bigSep_sep', bigSep_sep', e]
    exact sep_mono_right ih

/-- The duties of a device's own copies. -/
abbrev own : List Cell := .stage :: sends

/-- The tokens in use, at the device whose semaphores they are of. -/
abbrev inUse : List (Cell × Fin 7) := dues.map (fun p => p.2) ++ own.map fun x => (x, 0)

theorem inUse_nodup : inUse.Nodup := by decide +kernel

abbrev tokOf (p : Dev nD × (Cell × Fin 7)) : GSem nD τ sig × ℕ × Fin 7 := (kcell (p.1, p.2.1), 0, p.2.2)

theorem tokOf_inj : Function.Injective tokOf := by
  intro ⟨c, x, d⟩ ⟨c', x', d'⟩ h
  have h1 : (c, x) = (c', x') := kcell_inj (congrArg Prod.fst h)
  have h2 : d = d' := congrArg (fun q => q.2.2) h
  injection h1 with h3 h4
  rw [h2, h3, h4]

/-- All semaphores of all devices, and all tokens. -/
def gcells : Finset (GSem nD τ sig) := Finset.univ.map ⟨kcell, kcell_inj⟩
def gtoks : Finset (GSem nD τ sig × ℕ × Fin 7) := Finset.univ.map ⟨tokOf, tokOf_inj⟩

variable (m) in
/-- What each device starts with. -/
def Fund (c : Dev nD) : sProp 𝕄 :=
  iprop((bigSep Finset.univ fun x : Cell => roundState ER (sched m) (kcell (c, x)) 0)
    ∗ (bigSep Finset.univ fun x : Cell => reached ER (kcell (c, x)) 0) ∗ (bigSep Finset.univ fun x : Cell => At c x)
    ∗ bigSep Finset.univ fun p : Cell × Fin 7 => tok c p)

theorem fund_all : BI.own (ER (initOf gcells gtoks)) ⊢ (|==> bigSep Finset.univ (Fund m) : sProp 𝕄) := by
  have hX (Φ : GSem nD τ sig → sProp 𝕄) : bigSep gcells Φ = bigSep Finset.univ fun c : Dev nD => bigSep Finset.univ fun x : Cell => Φ (kcell (c, x)) := by
    unfold gcells; rw [bigSep_map, bigSep_univ_prod]; rfl
  have hT : bigSep gtoks (fun x => (dutyTok ER x.1 x.2.1 x.2.2 : sProp 𝕄))
      = bigSep Finset.univ fun c : Dev nD => bigSep Finset.univ fun p : Cell × Fin 7 => tok c p := by
    unfold gtoks; rw [bigSep_map, bigSep_univ_prod]; rfl
  iintro HX
  imod (Rounds.fund ER (sched m) gcells gtoks) $$ HX with ⟨Hst, Hr, Hat, Htok⟩
  imodintro
  ihave Hst := (Entails.of_eq (hX fun g => roundState ER (sched m) g 0)) $$ Hst
  ihave Hr := (Entails.of_eq (hX fun g => reached ER g 0)) $$ Hr
  ihave Hat := (Entails.of_eq (hX fun g => atPos ER g 0 ∅ 0)) $$ Hat
  ihave Htok := (Entails.of_eq hT) $$ Htok
  unfold Fund
  simp only [bigSep_sep']
  isplitl [Hst]; · iexact Hst
  isplitl [Hr]; · iexact Hr
  isplitl [Hat]; · iexact Hat
  iexact Htok

/-! ## The semaphores -/

/-- The semaphores of the kernel's own, by number. -/
abbrev osem (k : Fin cells.tail.length) : SemLoc sig := csem (cells.tail.get k)

theorem ownSemFacts : Pipeline.OwnSemFacts cfg0.spec osem := by decide +kernel

abbrev OwnSems (c : Dev nD) : sProp 𝕄 := Pipeline.ownSems0 (Ix := Unit) (Name := ℕ) (U := UU) (Lvl := ℕ) (Val := Elt F) (τ := τ) osem c

theorem ownSems_eq (c : Dev nD) : (OwnSems c : sProp 𝕄) = Lst (Done c) cells.tail := by
  unfold OwnSems
  rw [Pipeline.ownSems0_eq_of_list c osem (List.finRange _) (by decide +kernel) (List.nodup_finRange _), ← lst_bigSepL,
    ← lst_map (Done c) (fun k : Fin cells.tail.length => cells.tail.get k), List.map_get_finRange]

theorem unscopedSems_eq (c : Dev nD) : (unscopedSems0 c : sProp 𝕄) = Done c .bar := by
  unfold unscopedSems0; rw [bigSep_eq_bigSepL_of_eq [SemLoc.reg barS] (by decide +kernel) (by decide)]; rfl

theorem sems_eq (c : Dev nD) : (bigSep Finset.univ fun x : Cell => Done c x) = (iprop(unscopedSems0 c ∗ OwnSems c) : sProp 𝕄) := by
  rw [all_lst (fun x => (Done c x : sProp 𝕄)) cells (by decide +kernel) cells_nodup, ownSems_eq, unscopedSems_eq]
  rfl

/-! ## The shared record -/

variable (m) in
abbrev Rec (K : Dev nD × Cell → ℕ) : sProp 𝕄 :=
  bigSep Finset.univ fun p : Dev nD × Cell => iprop(cellInv ER (sched m) (K p) (kcell p) ∗ reached ER (kcell p) 0)

variable (m) in
/-- A device's share of the exchange. -/
def Share (c : Dev nD) : sProp 𝕄 :=
  iprop(∃ K, Rec m K ∗ toks c dues ∗ At c .bar ∗ Lst (At c) receives ∗ Lst (Free c) own)

theorem core_alloc (c : Dev nD) : iprop(OwnSems c ∗ unscopedSems0 c ∗ Fund m c)
    ⊢ |={Set.univ}=> iprop((bigSep Finset.univ fun x : Cell => iprop((∃ κ : ℕ, cellInv ER (sched m) κ (kcell (c, x))) ∗ reached ER (kcell (c, x)) 0))
        ∗ (bigSep Finset.univ fun x : Cell => At c x) ∗ bigSep Finset.univ fun p : Cell × Fin 7 => tok c p) := by
  have hinv : iprop((bigSep Finset.univ fun x : Cell => (Done c x : sProp 𝕄)) ∗ bigSep Finset.univ fun x : Cell => roundState ER (sched m) (kcell (c, x)) 0)
      ⊢ |={Set.univ}=> bigSep Finset.univ fun x : Cell => iprop(∃ κ : ℕ, cellInv ER (sched m) κ (kcell (c, x))) := by
    rw [← bigSep_sep']
    exact (bigSep_mono fun x _ => (Rounds.body_intro ER (sched m) (kcell (c, x))).trans inv_alloc).trans (bigSep_fupd _ _)
  unfold Fund
  iintro ⟨Ho, Hu, Hst, Hr, Hat, Htok⟩
  ihave Hv := (Entails.of_eq (sems_eq c).symm) $$ [Ho Hu]
  · isplitl [Hu]; · iexact Hu
    iexact Ho
  imod hinv $$ [Hv Hst] with HI
  · isplitl [Hv]; · iexact Hv
    iexact Hst
  imodintro
  rw [bigSep_sep']
  isplitl [HI Hr]
  · isplitl [HI]; · iexact HI
    iexact Hr
  isplitl [Hat]; · iexact Hat
  iexact Htok

/-- A device's positions and the tokens of its own copies, listed. -/
theorem mine (c : Dev nD) : iprop((bigSep Finset.univ fun x : Cell => At c x) ∗ Lst (tok c) (own.map fun x => (x, 0)))
    ⊢ (iprop(At c .bar ∗ Lst (At c) receives ∗ Lst (Free c) own) : sProp 𝕄) := by
  rw [all_lst (fun x => (At c x : sProp 𝕄)) (.bar :: (receives ++ own)) (by decide +kernel) (by decide +kernel), lst_cons, lst_map]
  iintro ⟨⟨Hb, H⟩, Ht⟩
  ihave ⟨Hr, Ho⟩ := (lst_append (fun x => At c x) receives own) $$ H
  isplitl [Hb]; · iexact Hb
  isplitl [Hr]; · iexact Hr
  iapply (lst_sep (fun x => tok c (x, 0)) (fun x => At c x) own)
  isplitl [Ht]; · iexact Ht
  iexact Ho

theorem with_all {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

theorem regroup : (bigSep Finset.univ fun c : Dev nD => iprop((bigSep Finset.univ fun x : Cell => iprop((∃ κ : ℕ, cellInv ER (sched m) κ (kcell (c, x))) ∗ reached ER (kcell (c, x)) 0))
        ∗ (bigSep Finset.univ fun x : Cell => At c x) ∗ bigSep Finset.univ fun p : Cell × Fin 7 => tok c p) : sProp 𝕄)
      ⊢ bigSep Finset.univ (Share m) := by
  have htok : (bigSep Finset.univ fun c : Dev nD => bigSep Finset.univ fun p : Cell × Fin 7 => (tok c p : sProp 𝕄))
      ⊢ iprop((bigSep Finset.univ fun c : Dev nD => toks c dues) ∗ bigSep Finset.univ fun c : Dev nD => Lst (tok c) (own.map fun x => (x, 0))) := by
    refine (bigSep_mono fun c _ => (lst_some (tok c) inUse inUse_nodup).trans (lst_append (tok c) _ _)).trans ?_
    rw [bigSep_sep']
    exact sep_mono_left (deal dues)
  rw [bigSep_sep', bigSep_sep', ← bigSep_univ_prod (fun p : Dev nD × Cell => iprop((∃ κ : ℕ, cellInv ER (sched m) κ (kcell p)) ∗ reached ER (kcell p) 0)), bigSep_sep']
  iintro ⟨⟨HI, #HR⟩, Hat, Ht⟩
  ihave HK := (BI.bigSep_exists_pi Finset.univ (fun (p : Dev nD × Cell) (κ : ℕ) => (cellInv ER (sched m) κ (kcell p) : sProp 𝕄))) $$ HI
  icases HK with ⟨%K, #HI⟩
  ihave ⟨Hd, Ho⟩ := htok $$ Ht
  ihave Hm := (show iprop((bigSep Finset.univ fun c : Dev nD => bigSep Finset.univ fun x : Cell => (At c x : sProp 𝕄)) ∗ bigSep Finset.univ fun c : Dev nD => Lst (tok c) (own.map fun x => (x, 0)))
      ⊢ (bigSep Finset.univ fun c : Dev nD => iprop(At c .bar ∗ Lst (At c) receives ∗ Lst (Free c) own)) from by
        rw [← bigSep_sep']; exact bigSep_mono fun c _ => mine c) $$ [Hat Ho]
  · isplitl [Hat]; · iexact Hat
    iexact Ho
  iapply (with_all (R := Rec m K) (Φ := fun c : Dev nD => iprop(toks c dues ∗ At c .bar ∗ Lst (At c) receives ∗ Lst (Free c) own)) (fun c => by
    unfold Share
    iintro ⟨H1, H2⟩
    iexists K
    isplitl [H1]; · iexact H1
    iexact H2))
  isplitr
  · unfold Rec
    rw [bigSep_sep']
    isplitl; · iexact HI
    iexact HR
  · iapply (Entails.of_eq (bigSep_sep' Finset.univ (fun c : Dev nD => (toks c dues : sProp 𝕄)) (fun c => iprop(At c .bar ∗ Lst (At c) receives ∗ Lst (Free c) own))).symm)
    isplitl [Hd]; · iexact Hd
    iexact Hm

/-- From the semaphores of all devices, every device's share. -/
theorem glob : (bigSep Finset.univ fun c => iprop(OwnSems c ∗ unscopedSems0 c ∗ Fund m c) : sProp 𝕄)
    ⊢ |={Set.univ}=> bigSep Finset.univ (Share m) :=
  ((bigSep_mono fun c _ => core_alloc c).trans (bigSep_fupd _ _)).trans (BI.fupd_mono regroup)

/-! ## The credits -/

/-- What all devices owe a semaphore: its amount, once for each entry of their dues naming it. -/
theorem owed_sum (l : List Talk) (p : Dev nD × Cell) :
    ∑ d : Dev nD, due d l (kcell p) () = l.countP (fun q => decide (q.2.1 = p.2)) * amt p.2 := by
  induction l with
  | nil => rw [List.countP_nil, Nat.zero_mul]; exact Finset.sum_const_zero
  | cons q l ih =>
    have e : ∀ d : Dev nD, due d (q :: l) (kcell p) () = due d l (kcell p) () + if d = q.1.symm p.1 then (if q.2.1 = p.2 then amt p.2 else 0) else 0 := by
      intro d
      rw [due_cons, Pi.add_apply, Finsupp.add_apply, tallyAt_apply]
      refine congrArg _ ?_
      by_cases h1 : d = q.1.symm p.1
      · rw [if_pos h1]
        have h3 : q.1 d = p.1 := by rw [h1, Equiv.apply_symm_apply]
        by_cases h2 : q.2.1 = p.2
        · rw [if_pos h2, if_pos ⟨by rw [h3, h2], rfl⟩, h2]
        · rw [if_neg h2, if_neg fun h => h2 (congrArg Prod.snd (kcell_inj h.1)).symm]
      · rw [if_neg h1, if_neg fun h => h1 (by
          have h4 : p.1 = q.1 d := congrArg Prod.fst (kcell_inj h.1)
          rw [h4, Equiv.symm_apply_apply])]
    rw [Finset.sum_congr rfl fun d _ => e d, Finset.sum_add_distrib, ih, Finset.sum_ite_eq' Finset.univ (q.1.symm p.1) fun _ => _,
      if_pos (Finset.mem_univ _), List.countP_cons]
    by_cases h2 : q.2.1 = p.2
    · rw [if_pos h2, if_pos (by simpa using h2), Nat.add_mul, Nat.one_mul]
    · rw [if_neg h2, if_neg (by simpa using h2), Nat.add_zero, Nat.add_zero]

theorem credit_at (c : Dev nD) (x : Cell) :
    tallyOn (kcell (c, x)) (launchCredit (Pipeline.owing fun d => due d dues) 0 (kcell (c, x)))
      = (tallyAt (kcell (c, x)) () (dues.countP (fun q => decide (q.2.1 = x)) * amt x) : CellTallies nD τ sig Unit) := by
  unfold tallyAt
  refine congrArg _ (Finsupp.ext fun u => ?_)
  cases u
  rw [Pipeline.launchCredit_owing, Finsupp.single_eq_same, owed_sum]

theorem count_dues : ∀ x ∈ receives, dues.countP (fun q => decide (q.2.1 = x)) = 1 ∧ x ≠ .bar ∧ x ≠ .stage := by decide +kernel

theorem amt_tot (x : Cell) (h : x ≠ .bar) : amt x = tot x := by
  cases x <;> first | rfl | exact absurd rfl h

/-- The credits of the entry and of the receives. -/
theorem creds (c : Dev nD) : (Pipeline.launchCred (fun d => due d dues) c : sProp 𝕄)
    ⊢ Lst (fun x => cred (tallyAt (kcell (c, x)) () (tot x))) (.bar :: receives) := by
  unfold Pipeline.launchCred
  refine (lst_some _ ((Cell.bar :: receives).map csem) (by decide +kernel)).trans ?_
  rw [lst_map]
  refine lst_imp fun x hx => ?_
  rw [credit_at c x]
  rcases List.mem_cons.mp hx with h | h
  · rw [h, show dues.countP (fun q => decide (q.2.1 = Cell.bar)) = 7 from by decide +kernel]
    exact .rfl
  · rw [(count_dues x h).1, Nat.one_mul, amt_tot x (count_dues x h).2.1]

/-- What the body needs of the exchange. -/
theorem share_wait (c : Dev nD) : iprop(Share m c ∗ Pipeline.launchCred (fun d => due d dues) c ∗ levAts L lv)
    ⊢ iprop(∃ K, Know m K ∗ toks c dues ∗ Wait c .bar ∗ Lst (Wait c) receives ∗ Free c .stage ∗ Lst (Free c) sends) := by
  unfold Share
  iintro ⟨⟨%K, HR, Ht, Hb, Hr, Ho⟩, Hc, HL⟩
  ihave Hc := (creds c) $$ Hc
  ihave ⟨Cb, Cr⟩ := (Entails.of_eq (lst_cons (fun x => cred (tallyAt (kcell (c, x)) () (tot x))) Cell.bar receives)) $$ Hc
  ihave ⟨Os, Oc⟩ := (Entails.of_eq (lst_cons (fun x => Free c x) Cell.stage sends)) $$ Ho
  iexists K
  isplitl [HR HL]
  · unfold Know
    isplitl [HR]; · iexact HR
    iexact HL
  isplitl [Ht]; · iexact Ht
  isplitl [Cb Hb]
  · unfold Wait
    isplitl [Cb]; · iexact Cb
    iexact Hb
  isplitl [Cr Hr]
  · iapply (lst_sep (fun x => cred (tallyAt (kcell (c, x)) () (tot x))) (fun x => At c x) receives)
    isplitl [Cr]; · iexact Cr
    iexact Hr
  isplitl [Os]; · iexact Os
  iexact Oc

end Cert.AllSum

end
-- ==== Proof.Mesh.Launch.lean ====
/-
The run of the kernel on all devices, for any values.
Every execution ends, the argument of each device is unchanged, its result is `oF`, and all semaphores are at zero.
-/
module

public import proofs.«01_k».proof.Proof.Mesh.Deal
public import proofs.«01_k».proof.Proof.Gen.KernelIdeal.Frame
public import Idealize.ShloMosaic.Lib.Pipeline.CollectiveSegs

@[expose] public section

noncomputable section

namespace Cert.AllSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (ρ : Dev nD → PrngReg)

/-! ## The states around the body -/

/-- The argument of device `c`, whole. -/
abbrev argPts (c : Dev nD) : sProp 𝕄 := ((c : Thread nD τ).loc main_arg0) ↦{fullShare} m ((c : Thread nD τ).loc main_arg0)

/-- The exchange, as the body starts from it. -/
def Exch (c : Dev nD) : sProp 𝕄 :=
  iprop(∃ K, Know m K ∗ toks c dues ∗ Wait c .bar ∗ Lst (Wait c) receives ∗ Free c .stage ∗ Lst (Free c) sends)

def Φ₀ (c : Dev nD) : sProp 𝕄 := iprop((Exch m c ∗ argPts m c) ∗ ptE c xM ∗ ptE c sM ∗ ptE c rM)
def Φ₁ (c : Dev nD) : sProp 𝕄 := iprop(((bigSep Finset.univ fun x => Done c x) ∗ argPts m c) ∗ ptE c xM ∗ ptE c sM ∗ ptE c rM)

/-- The state of the run around its one point. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => oF m (cz c)
  Φ t := match t with
    | ⟨0, _⟩ => Φ₀ m c
    | ⟨_ + 1, _⟩ => Φ₁ m c
  q _ := fullShare
  owed t := match t with
    | ⟨0, _⟩ => due c dues
    | ⟨_ + 1, _⟩ => 0

/-- A whole buffer at a given content. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem pt_whole (c : Dev nD) (b : Ref sig .tc) (f : Buf (Elt F) ((c : Thread nD τ).loc b)) :
    (pt c (Memref.whole b) fullShare f : sProp 𝕄) = (((c : Thread nD τ).loc b) ↦{fullShare} f) := by
  have h : (Memref.whole b).view.set = Finset.univ := View.set_whole b
  show ((((c : Thread nD τ).loc b) ↦[(Memref.whole b).view.set]{fullShare} f) : sProp 𝕄) = _
  rw [h]

theorem any_whole (c : Dev nD) (b : Ref sig .tc) :
    (ptE c (Memref.whole b) : sProp 𝕄) = iprop(∃ f : Buf (Elt F) ((c : Thread nD τ).loc b), ((c : Thread nD τ).loc b) ↦{fullShare} f) :=
  BI.Entails.antisymm
    (show (ptE c (Memref.whole b) : sProp 𝕄) ⊢ _ from by
      iintro ⟨%f, H⟩
      iexists f
      iapply (Entails.of_eq (pt_whole c b f))
      iexact H)
    (show _ ⊢ (ptE c (Memref.whole b) : sProp 𝕄) from by
      iintro ⟨%f, H⟩
      iexists f
      iapply (Entails.of_eq (pt_whole c b f).symm)
      iexact H)

/-- The argument is the slice the device copies and the rest. -/
theorem arg_split (c : Dev nD) : (argPts m c : sProp 𝕄)
    = iprop(pt c (aV (cy c) (cx c)) fullShare (m ((c : Thread nD τ).loc main_arg0))
        ∗ ((c : Thread nD τ).loc main_arg0) ↦[Finset.univ \ (aV (cy c) (cx c)).view.set]{fullShare} m ((c : Thread nD τ).loc main_arg0)) :=
  BI.Entails.antisymm (pointsTo_split_subset (Finset.subset_univ _)).1 (pointsTo_split_subset (Finset.subset_univ _)).2

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc ∗ (∃ d, stg c cc0_stg0_0 ((dats m ρ 0 c).before (0 : Fin 1) t0_0 d)))
def bodyPost (c : Dev nD) : sProp 𝕄 :=
  iprop(Φ₁ m c ∗ (dats m ρ 0 c).owesAt () t0_0.succ ∗ stg c cc0_stg0_0 (oF m (cz c)))

theorem body_start (c : Dev nD) : bodyPre m ρ c ⊢ iprop((∃ K, Start m K c)
    ∗ ((c : Thread nD τ).loc main_arg0) ↦[Finset.univ \ (aV (cy c) (cx c)).view.set]{fullShare} m ((c : Thread nD τ).loc main_arg0)) := by
  unfold bodyPre Φ₀ Exch Start Due Dat.owesAt Pipeline.owesWithin
  rw [arg_split, show (dats m ρ 0 c).owed t0_0.castSucc = due c dues from rfl]
  iintro ⟨⟨⟨⟨%K, HK, Ht, Hb, Hr, Hs, Hc⟩, Ha, Hrest⟩, Hx, Hsm, Hrm⟩, ⟨%W, %hW, HO⟩, ⟨%d, %f, %hf, Hout⟩⟩
  isplitr [Hrest]
  · iexists K
    isplitl [HK]; · iexact HK
    isplitl [HO Ht]
    · isplitl [HO]; · iexists W; iexact HO
      iexact Ht
    isplitl [Hb]; · iexact Hb
    isplitl [Hr]; · iexact Hr
    isplitl [Hs]; · iexact Hs
    isplitl [Hc]; · iexact Hc
    isplitl [Ha]; · iexact Ha
    isplitl [Hout]
    · iapply (ptE_intro oM f)
      iapply (Entails.of_eq (pt_whole c cc0_stg0_0 f).symm)
      iexact Hout
    isplitl [Hx]; · iexact Hx
    isplitl [Hsm]; · iexact Hsm
    iexact Hrm
  iexact Hrest

theorem body_end (c : Dev nD) : iprop(End m c
    ∗ ((c : Thread nD τ).loc main_arg0) ↦[Finset.univ \ (aV (cy c) (cx c)).view.set]{fullShare} m ((c : Thread nD τ).loc main_arg0)) ⊢ bodyPost m ρ c := by
  unfold bodyPost Φ₁ End Due Dat.owesAt Pipeline.owesWithin
  rw [arg_split, show (dats m ρ 0 c).owed t0_0.succ = 0 from rfl]
  iintro ⟨⟨HD, ⟨⟨%W, HO⟩, -⟩, Ha, Ho, Hx, Hsm, Hrm⟩, Hrest⟩
  isplitl [HD Ha Hx Hsm Hrm Hrest]
  · isplitl [HD Ha Hrest]
    · isplitl [HD]; · iexact HD
      isplitl [Ha]; · iexact Ha
      iexact Hrest
    isplitl [Hx]; · iexact Hx
    isplitl [Hsm]; · iexact Hsm
    iexact Hrm
  isplitl [HO]
  · iexists W
    isplitr; · ipureintro; exact fun _ _ => Or.inl trivial
    iexact HO
  iexists _
  isplitr; · (ipureintro; rfl)
  iapply (Entails.of_eq (pt_whole c cc0_stg0_0 (oF m (cz c))))
  iexact Ho

set_option maxRecDepth 16000 in
theorem body_obligation (c : Dev nD) : BodyObligation (dats (F := F) m ρ 0 c) (defs₀ (F := F)) 𝒱₀ () Set.univ := fun t => by
  rw [fin_N0 t]
  rw [bigSep_W0, bigSep_W0]
  simp only [owns_whole]
  show bodyPre m ρ c ⊢ Wp c (cc0_body aM (Memref.isWhole_whole _) oM (Memref.isWhole_whole _) xM (Memref.isWhole_whole _) sM (Memref.isWhole_whole _) rM (Memref.isWhole_whole _)
    cc0_scratch3 cc0_scratch4 cc0_scratch5 cc0_scratch6 cc0_scratch7 cc0_scratch8 cc0_scratch9) (fun _ => bodyPost m ρ c)
  iintro H
  ihave ⟨⟨%K, HS⟩, Hrest⟩ := (body_start m ρ c) $$ H
  iapply (body (m := m) (K := K) (c := c)) $$ HS
  iintro HE
  iapply (body_end m ρ c)
  isplitl [HE]; · iexact HE
  iexact Hrest

/-! ## The sides of the launch -/

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf gcells gtoks)

/-- What a device enters with. -/
abbrev enter (c : Dev nD) : sProp 𝕄 := iprop(Exch m c ∗ argPts m c)
/-- What a device leaves with. -/
abbrev leave (c : Dev nD) : sProp 𝕄 := iprop(unscopedSems0 c ∗ argPts m c)

theorem start_intro (c : Dev nD) :
    iprop(Pipeline.unscopedRestP Pipeline.Prefetch.none cfg0.spec c (fun b => m ((c : Thread nD τ).loc b)) ∗ levAts L lv
        ∗ Pipeline.launchCred (fun d => due d dues) c ∗ prngReg c (ρ c) ∗ Share m c)
      ⊢ |={Set.univ}=> iprop(enter m c ∗ emp) := by
  rw [Pipeline.unscopedRestP_none, unscopedRest0_eq]
  iintro ⟨Ha, Hlev, Hcr, -, HG⟩
  ihave HE := (share_wait (m := m) c) $$ [HG Hcr Hlev]
  · isplitl [HG]; · iexact HG
    isplitl [Hcr]; · iexact Hcr
    iexact Hlev
  imodintro
  isplitl
  · isplitl [HE]; · unfold Exch; iexact HE
    iexact Ha
  · iempintro

theorem rest_eq (c : Dev nD) : (Pipeline.scopedRest cfg0.spec c : sProp 𝕄) = iprop(ptE c xM ∗ ptE c sM ∗ ptE c rM) := by
  rw [show (Pipeline.scopedRest cfg0.spec c : sProp 𝕄) = _ from scopedRest0_eq c]
  rw [any_whole c cc0_scratch0, any_whole c cc0_scratch1, any_whole c cc0_scratch2]

theorem phi0_intro (c : Dev nD) :
    iprop(enter m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, rest_eq]
  unfold Φ₀
  iintro ⟨Hs, -, Hr⟩
  isplitl [Hs]; · iexact Hs
  iexact Hr

theorem phi1_exit (c : Dev nD) :
    (dats m ρ 0 c).Φ (Fin.last cfg0.N) ⊢ iprop(leave m c ∗ Pipeline.ownSems0 osem c ∗ Pipeline.scopedRest cfg0.spec c) := by
  rw [show (dats m ρ 0 c).Φ (Fin.last cfg0.N) = Φ₁ m c from rfl, rest_eq]
  unfold Φ₁
  rw [sems_eq]
  iintro ⟨⟨⟨Hu, Ho⟩, Ha⟩, Hr⟩
  isplitl [Hu Ha]
  · isplitl [Hu]; · iexact Hu
    iexact Ha
  isplitl [Ho]; · iexact Ho
  iexact Hr

theorem lv_stage (c : Dev nD) (w : Fin cfg0.W) (s : Fin (cfg0.win w).nbuf) : lv ((c : Thread nD τ), .dma ((cfg0.win w).sem s)) () ≤ 0 := by
  have h : ∀ (w : Fin cfg0.W) (s : Fin (cfg0.win w).nbuf) (x : Cell), csem x ≠ .dma ((cfg0.win w).sem s) := by decide +kernel
  unfold lv dec Function.partialInv
  rw [dif_neg fun ⟨x, hx⟩ => h w s x hx]
  exact le_refl 0

theorem dues_pos : ∀ p ∈ dues, 0 < lvl p.2.1 := by decide +kernel

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ 0 (lv_stage c w s) dues dues_pos
    · exact mayWait c _ 0 (lv_stage c w s) [] (fun p hp => absurd hp List.not_mem_nil)

/-- The argument read at the end. -/
theorem arg_read (c : Dev nD) (s' : Phys nD τ sig (Elt F)) : iprop(SI s' ∗ argPts m c)
    ⊢ (⌜s'.mem.mem ((c : Thread nD τ).loc main_arg0) = m ((c : Thread nD τ).loc main_arg0)⌝ : sProp 𝕄) :=
  SI_pointsTo_agree.trans (Laws.pure_mono fun h => funext fun i => h i (Finset.mem_univ i))

/-! ## The run -/

/-- The result of device `c` after the run. -/
def finalA (c : Dev nD) (w : Fin cfg0.W) : Buf (Elt F) ((cfg0.win w).arr.view.loc (c : Thread nD τ)) := (dats m ρ 0 c).arrAt w cfg0.N

set_option maxRecDepth 8000 in
theorem run_all : θ_run defs (onTc (τ := τ) (main (F := F))) (s₀ m ρ) (fun r =>
    (∀ c : Dev nD, (∀ w : Fin cfg0.W, r.2.mem ((cfg0.win w).arr.view.loc (c : Thread nD τ)) = finalA m ρ c w)
      ∧ r.2.mem ((c : Thread nD τ).loc main_arg0) = m ((c : Thread nD τ).loc main_arg0)) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := fun d => due d dues) (howed₀ := fun _ => rfl) (howedN := fun _ => rfl)
    (L := L) (lv := lv) (hL := L_of_ne) (hwaits := waits m ρ)
    (G := Fund m) (G' := Share m) (u₀ := u₀)
    (hu₀ := by
      unfold u₀
      iintro Hu
      ihave H := (ownU_pair _ _) $$ Hu
      icases H with ⟨HP, HX⟩
      imod (fund_all (m := m)) $$ HX with HG
      imodintro
      isplitl [HP] <;> iassumption)
    (hglob := glob)
    (hA := fun _ _ => rfl) (hpf := fun _ k => k.elim0)
    (X := enter m) (Y := leave m) (Z := fun _ => iprop(emp))
    (hX := start_intro m ρ) (hin := phi0_intro m ρ) (hout := phi1_exit m ρ)
    (QY := fun c s => s.mem ((c : Thread nD τ).loc main_arg0) = m ((c : Thread nD τ).loc main_arg0)
      ∧ ∀ sm : SemLoc sig, sm.isScoped .tc = false → s.sem ((c.tc : Thread nD τ), sm) = 0)
    (hY := fun c s' => by
      iintro ⟨⟨Hu, Ha⟩, -, HSI⟩
      ihave %ha := (arg_read m c s') $$ [HSI Ha]
      · isplitl [HSI] <;> iassumption
      imod (Pipeline.unscopedSems0_read (X := unscopedSems0 c) (c := c) fupd_intro s') $$ [Hu HSI] with ⟨%hs, HSI⟩
      · isplitl [Hu] <;> iassumption
      imodintro
      isplitr; · ipureintro; exact ⟨ha, hs⟩
      iexact HSI)
    (hQ := fun _ h hs => ⟨fun c => ⟨(h c).1, (h c).2.2.1⟩, sem_eq_zero hs fun c => (h c).2.2.2⟩)

end Cert.AllSum

end
-- ==== Proof.Mesh.Value.lean ====
/-
# The value: over the extended reals the result is the sum over the mesh axis `z`

`oF m z` at row `i` and column `j` is a sum of four numbers, one of each device along `z` in the row of the mesh whose
slice holds row `i`: the device's argument at row `i` and column `512 z + j`. The reference's sum has the same four terms.
-/
module

public import proofs.«01_k».proof.Proof.Mesh.Launch
public import proofs.«01_k».proof.Proof.Gen.ReferenceIdeal.Run
public import Idealize.ShloMosaic.Lib.Pipeline.ValueKit
public import Idealize.ShloMosaic.Lib.Pointwise
public import Idealize.ShloMosaic.Lib.Layout
public import Idealize.ShloMosaic.PureOps.Ideal.Laws

@[expose] public section

noncomputable section

namespace Cert.AllSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What is written back, for any values -/

theorem wholeAt : (cfg0.win 0).WholeAt ⟨0, by decide⟩ := by decide +kernel

theorem finalA_eq (m : (ℓ : Loc nD τ sig) → Buf (Elt F) ℓ) (ρ : Dev nD → PrngReg) (c : Dev nD) :
    finalA m ρ c 0 = oF m (cz c) :=
  (dats m ρ 0 c).arrAt_eq_of_after_last 0 ⟨0, by decide⟩ wholeAt _ fun _ => rfl

/-! ## The slice of the argument, for any values -/

section Slice
variable (m : (ℓ : Loc nD τ sig) → Buf (Elt F) ℓ)

/-- Device `c`'s argument. -/
abbrev arg (c : Dev nD) : S1x1024x2048.Idx → Elt F .f32 := m ((c : Thread nD τ).loc main_arg0)

theorem xF_apply (c : Dev nD) (i : Fin 128) (j : Fin 2048) (k : S1x1024x2048.Idx)
    (h1 : (k 1).val = row (cy c) (cx c) 0 + i.val) (h2 : (k 2).val = j.val) :
    (xF m c : S128x2048.Idx → Elt F .f32) (ix2 i j) = arg m c k := by
  have e : Shape.reshapeEquiv squeezes_S1x128x2048_S128x2048.numel_eq (ix2 i j : S128x2048.Idx) = (ix3 0 i j : S1x128x2048.Idx) :=
    Shape.reshapeEquiv_eq_of_rowMajor _ (by
      rw [Shape.rowMajor_val_three, Shape.rowMajor_val_two]
      show (0 * 128 + i.val) * 2048 + j.val = i.val * 2048 + j.val
      omega)
  have e' : (Rect.unit (s := S1x1024x2048) ![0, row (cy c) (cx c) 0, 0] S1x128x2048.size (inbA (cy c) (cx c))).emb (ix3 0 i j : S1x128x2048.Idx) = k := by
    funext a; apply Fin.ext; rw [Rect.emb_apply]
    have h0 : (k 0).val = 0 := Nat.lt_one_iff.mp (k 0).isLt
    match a with
    | 0 => show 0 + 1 * 0 = (k 0).val; omega
    | 1 => show row (cy c) (cx c) 0 + 1 * i.val = (k 1).val; omega
    | 2 => show 0 + 1 * j.val = (k 2).val; omega
  show arg m c ((Rect.unit (s := S1x1024x2048) ![0, row (cy c) (cx c) 0, 0] S1x128x2048.size (inbA (cy c) (cx c))).emb
    (Shape.reshapeEquiv squeezes_S1x128x2048_S128x2048.numel_eq (ix2 i j : S128x2048.Idx))) = _
  rw [e, e']

theorem xblk_apply (c : Dev nD) (r : Fin 2) (b : Fin 4) (i : Fin 64) (j : Fin 512) (k : S1x1024x2048.Idx)
    (h1 : (k 1).val = row (cy c) (cx c) r + i.val) (h2 : (k 2).val = 512 * b.val + j.val) :
    xblk m c r b (ix2 i j) = arg m c k := by
  have hr := r.isLt; have hi := i.isLt; have hb := b.isLt; have hj := j.isLt
  have e : (Rect.unit (s := S128x2048) ![64 * r.val, 512 * b.val] S64x512.size (inbX r b)).emb (ix2 i j : S64x512.Idx)
      = (ix2 ⟨64 * r.val + i.val, by omega⟩ ⟨512 * b.val + j.val, by omega⟩ : S128x2048.Idx) := by
    funext a; apply Fin.ext; rw [Rect.emb_apply]
    match a with
    | 0 => show 64 * r.val + 1 * i.val = 64 * r.val + i.val; omega
    | 1 => show 512 * b.val + 1 * j.val = 512 * b.val + j.val; omega
  show (xF m c : S128x2048.Idx → Elt F .f32) ((Rect.unit (s := S128x2048) ![64 * r.val, 512 * b.val] S64x512.size (inbX r b)).emb (ix2 i j : S64x512.Idx)) = _
  rw [e]
  refine xF_apply m c _ _ k ?_ h2
  rw [h1]; unfold row
  show _ = 256 * (cy c).val + 128 * (cx c).val + 64 * 0 + (64 * r.val + i.val)
  omega

end Slice

/-! ## The sum over the extended reals -/

section Value
variable (m : (ℓ : Loc nD τ sig) → Buf (Elt Ideal) ℓ)

/-- Both reshapes of a piece keep its rows and columns. -/
theorem cast_piece {α : Type} (x : S1x1x64x512.Idx → α) (i : Fin 64) (j : Fin 512) :
    shapeCast S64x512 x shapeCasts_S1x1x64x512_S64x512 (ix2 i j) = x (ix4 0 0 i j) :=
  shapeCast_apply x _ _ _ (by
    rw [Shape.rowMajor_val_four, Shape.rowMajor_val_two]
    show ((0 * 1 + 0) * 64 + i.val) * 512 + j.val = i.val * 512 + j.val
    omega)
theorem cast_piece' {α : Type} (x : S64x512.Idx → α) (i : Fin 64) (j : Fin 512) :
    shapeCast S1x1x64x512 x shapeCasts_S64x512_S1x1x64x512 (ix4 0 0 i j) = x (ix2 i j) :=
  shapeCast_apply x _ _ _ (by
    rw [Shape.rowMajor_val_four, Shape.rowMajor_val_two]
    show i.val * 512 + j.val = ((0 * 1 + 0) * 64 + i.val) * 512 + j.val
    omega)

theorem blk_apply (c : Dev nD) (r : Fin 2) (z : Fin 4) (i : Fin 64) (j : Fin 512) (k : S1x1024x2048.Idx)
    (h1 : (k 1).val = row (cy c) (cx c) r + i.val) (h2 : (k 2).val = 512 * (cz c).val + j.val) :
    (shapeCast S64x512 (blk m c r z) shapeCasts_S1x1x64x512_S64x512 : S64x512.Idx → EReal) (ix2 i j)
      = arg m (dv (cx c) (cy c) z) k := by
  rw [cast_piece]
  refine (cast_piece' (truncf (F := Ideal) .bf16 (xblk m (dv (cx c) (cy c) z) r (cz c)) bitsLt_bf16_f32) i j).trans ?_
  refine xblk_apply m (dv (cx c) (cy c) z) r (cz c) i j k ?_ h2
  rw [cx_dv, cy_dv]; exact h1

theorem red_apply (c : Dev nD) (r : Fin 2) (i : Fin 64) (j : Fin 512) (k : S1x1024x2048.Idx)
    (h1 : (k 1).val = row (cy c) (cx c) r + i.val) (h2 : (k 2).val = 512 * (cz c).val + j.val) :
    (red m c r : S64x512.Idx → EReal) (ix2 i j) = ∑ z : Fin 4, (arg m (dv (cx c) (cy c) z) k : EReal) := by
  rw [Fin.sum_univ_four, ← blk_apply m c r 0 i j k h1 h2, ← blk_apply m c r 1 i j k h1 h2,
    ← blk_apply m c r 2 i j k h1 h2, ← blk_apply m c r 3 i j k h1 h2]
  rfl

theorem oF_apply (z : Fin 4) (i : Fin 1024) (j : Fin 512) (k : S1x1024x2048.Idx)
    (h1 : (k 1).val = i.val) (h2 : (k 2).val = 512 * z.val + j.val) :
    ∃ x y, (oF m z : S1024x512.Idx → EReal) (ix2 i j) = ∑ z' : Fin 4, (arg m (dv x y z') k : EReal) := by
  refine ⟨⟨i.val / 128 % 2, Nat.mod_lt _ (by decide)⟩, ⟨i.val / 256 % 4, Nat.mod_lt _ (by decide)⟩, ?_⟩
  have h := red_apply m (dv ⟨i.val / 128 % 2, Nat.mod_lt _ (by decide)⟩ ⟨i.val / 256 % 4, Nat.mod_lt _ (by decide)⟩ z)
    ⟨i.val / 64 % 2, Nat.mod_lt _ (by decide)⟩ ⟨i.val % 64, Nat.mod_lt _ (by decide)⟩ j k
    (by
      rw [cx_dv, cy_dv, h1]; unfold row
      have hi := i.isLt
      show i.val = 256 * (i.val / 256 % 4) + 128 * (i.val / 128 % 2) + 64 * (i.val / 64 % 2) + i.val % 64
      omega)
    (by rw [cz_dv]; exact h2)
  rw [cx_dv, cy_dv] at h
  exact h

/-! ## The reference -/

/-- The reference's result. -/
abbrev total (v : Cert.ReferenceIdeal.S4x1024x2048.Idx → EReal) : Cert.ReferenceIdeal.S1024x2048.Idx → EReal :=
  truncf (F := Ideal) .bf16 (Host.reduceAdd v (constant (F := Ideal) Cert.ReferenceIdeal.S_ .f32 0x00000000#32)
    Cert.ReferenceIdeal.Gen.reducesTo_S4x1024x2048_S1024x2048_d0 Cert.ReferenceIdeal.Gen.h_S_) Cert.ReferenceIdeal.Gen.bitsLt_bf16_f32

theorem total_apply (v : Cert.ReferenceIdeal.S4x1024x2048.Idx → EReal) (i : Fin 1024) (j : Fin 2048) :
    total v (ix2 i j) = ∑ z : Fin 4, v (ix3 z i j) := by
  show Ideal.hostReduceAdd Cert.ReferenceIdeal.Gen.reducesTo_S4x1024x2048_S1024x2048_d0 v (Ideal.ofBits .f32 0x00000000#32) (ix2 i j) = _
  rw [Ideal.hostReduceAdd_r3_a0, Ideal.ofBits_zero_f32, zero_add]
  rfl

/-- The devices' results are the blocks of the reference's result when their arguments are the blocks of its argument. -/
theorem value (v : Cert.ReferenceIdeal.S4x1024x2048.Idx → EReal)
    (hv : ∀ c : Dev nD, arg m c = Layout.blockN ⟨3, ![1, 1024, 2048]⟩ ⟨3, ![4, 1024, 2048]⟩ (Layout.meshBlock [2, 4, 4] ![[2], [], []] c) v)
    (c : Dev nD) :
    (oF m (cz c) : S1024x512.Idx → EReal)
      = Layout.blockN ⟨2, ![1024, 512]⟩ ⟨2, ![1024, 2048]⟩ (Layout.meshBlock [2, 4, 4] ![[], [2]] c) (total v) := by
  funext i
  have hz := (cz c).isLt
  have hj : (i 1).val < 512 := (i 1).isLt
  obtain ⟨x, y, h⟩ := oF_apply m (cz c) (i 0) (i 1) (ix3 0 (i 0) ⟨512 * (cz c).val + (i 1).val, by omega⟩) rfl rfl
  have e : ∀ f : S1024x512.Idx → EReal, f (ix2 (i 0) (i 1)) = f i := fun f => congrArg f (by funext a; match a with | 0 => rfl | 1 => rfl)
  refine (e _).symm.trans ((show _ = (∑ z' : Fin 4, (arg m (dv x y z') (ix3 0 (i 0) ⟨512 * (cz c).val + (i 1).val, by omega⟩) : EReal)) from h).trans ?_)
  rw [Layout.blockN_apply]
  refine Eq.trans (α := EReal) ?_ (((total_apply v (i 0) ⟨512 * (cz c).val + (i 1).val, by omega⟩).symm).trans (congrArg (total v) ?_))
  · refine Finset.sum_congr rfl fun z _ => ?_
    rw [hv, Layout.blockN_apply]
    refine congrArg v ?_
    funext a; apply Fin.ext; rw [Layout.TilesN.idx_val]
    have hc : ∀ (x : Fin 2) (y z : Fin 4), Layout.meshLin [2, 4, 4] (dv x y z).val [2] = z.val := by decide +kernel
    match a with
    | 0 => show Layout.meshLin [2, 4, 4] (dv x y z).val [2] * 1 + 0 = z.val; rw [hc]; omega
    | 1 => show 0 * 1024 + (i 0).val = (i 0).val; omega
    | 2 => show 0 * 2048 + (512 * (cz c).val + (i 1).val) = 512 * (cz c).val + (i 1).val; omega
  · have hc : ∀ c : Dev nD, Layout.meshLin [2, 4, 4] c.val [2] = (cz c).val := by decide +kernel
    funext a; apply Fin.ext; rw [Layout.TilesN.idx_val]
    match a with
    | 0 => show (i 0).val = 0 * 1024 + (i 0).val; omega
    | 1 => show 512 * (cz c).val + (i 1).val = Layout.meshLin [2, 4, 4] c.val [2] * 512 + (i 1).val; rw [hc]; omega

end Value

end Cert.AllSum

end
-- ==== Proof.lean ====
/-
# The proof of the claims

One run of the kernel on the whole mesh, `Cert.AllSum.run_all`, serves both float formats: the frame claims of the kernel
and of the idealized kernel are what it says of the argument and the semaphores, and the value claim is what it says of the
result, read over the extended reals by `Cert.AllSum.value`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Quiescent
public import proofs.«01_k».proof.Proof.Mesh.Value

@[expose] public section

noncomputable section

namespace Cert.Proof

open Idealize.ShloMosaic Idealize.SL.Sem Cert.Kernel

section Same

attribute [local instance] Cert.Kernel.Gen.facts Cert.KernelIdeal.Gen.facts

/-- The kernel and the idealized kernel have the same bodies: no rule was applied. -/
theorem bodies_same : Cert.Kernel.defs₀ (F := Bits) = Cert.KernelIdeal.defs₀ (F := Bits) := by
  unfold Cert.Kernel.defs₀ Cert.KernelIdeal.defs₀
  refine congrArg Defs.onTc ?_
  funext l a
  match l with
  | 0 => rfl

theorem defs_same : Cert.Kernel.defs (F := Bits) = Cert.KernelIdeal.defs (F := Bits) :=
  congrArg (Pipeline.defs Cert.Kernel.pcfgs) bodies_same

end Same

theorem frame_kernel : @Cert.quiescent_Kernel Cert.Kernel.Gen.facts := fun m g _ => by
  rw [defs_same]
  exact (θ_run (Cert.KernelIdeal.defs (F := Bits)) _ _).mono (fun _ h => ⟨fun c => (h.1 c).2, h.2⟩)
    (Cert.AllSum.run_all (F := Bits) m g)

theorem frame_ideal : @Cert.quiescent_KernelIdeal Cert.KernelIdeal.Gen.facts := fun m g _ =>
  (θ_run (Cert.KernelIdeal.defs (F := Ideal)) _ _).mono (fun _ h => ⟨fun c => (h.1 c).2, h.2⟩)
    (Cert.AllSum.run_all (F := Ideal) m g)

theorem frame_reference : @Cert.quiescent_ReferenceIdeal Cert.ReferenceIdeal.Gen.facts := fun m g _ =>
  (θ_run (Cert.ReferenceIdeal.defs (F := Ideal)) _ _).mono
    (fun r h => ⟨fun c => (h c).2, sem_eq_zero_of_no_sems rfl r.2⟩)
    (Cert.ReferenceIdeal.Value.run (F := Ideal) m g)

theorem sum_value : @Cert.algebraic_KernelIdeal_ReferenceIdeal Cert.KernelIdeal.Gen.facts Cert.ReferenceIdeal.Gen.facts :=
  fun m g m' g' _ hx =>
    ⟨Cert.AllSum.total (m' (((0 : Dev Cert.ReferenceIdeal.nD).tc : Thread Cert.ReferenceIdeal.nD Cert.ReferenceIdeal.τ).loc Cert.ReferenceIdeal.main_arg0)),
      (θ_run (Cert.KernelIdeal.defs (F := Ideal)) _ _).mono
        (fun _ h c => ⟨((h.1 c).1 0).trans ((Cert.AllSum.finalA_eq m g c).trans (Cert.AllSum.value m _ hx c)), (h.1 c).2⟩)
        (Cert.AllSum.run_all (F := Ideal) m g),
      (θ_run (Cert.ReferenceIdeal.defs (F := Ideal)) _ _).mono (fun _ h => h 0)
        (Cert.ReferenceIdeal.Value.run (F := Ideal) m' g')⟩

theorem claim : Cert.Claim := ⟨Cert.Kernel.Gen.facts, Cert.KernelIdeal.Gen.facts, Cert.ReferenceIdeal.Gen.facts,
  frame_kernel, frame_ideal, frame_reference, trivial, sum_value⟩

end Cert.Proof

end
